-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments_KernelIdeal [hPre_finite_arguments_KernelIdeal : Cert.Pre_finite_arguments_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_arguments_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments_ReferenceIdeal [hPre_finite_arguments_ReferenceIdeal : Cert.Pre_finite_arguments_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_arguments_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_arguments_KernelIdeal [hKernelIdeal : Cert.KernelIdeal.Facts] [hPre_finite_arguments_KernelIdeal : Cert.Pre_finite_arguments_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_arguments_ReferenceIdeal [hReferenceIdeal : Cert.ReferenceIdeal.Facts] [hPre_finite_arguments_ReferenceIdeal : Cert.Pre_finite_arguments_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_arguments_KernelIdeal [hKernelIdeal : Cert.KernelIdeal.Facts] [hReferenceIdeal : Cert.ReferenceIdeal.Facts] [hPre_finite_arguments_KernelIdeal : Cert.Pre_finite_arguments_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 16384]⟩ (Layout.meshBlock [2, 2, 4] ![[], [2]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_arguments_KernelIdeal : Cert.Pre_finite_arguments_KernelIdeal.Facts) (hPre_finite_arguments_ReferenceIdeal : Cert.Pre_finite_arguments_ReferenceIdeal.Facts),
    quiescent_Kernel (hKernel := hKernel)
    ∧ quiescent_KernelIdeal (hKernelIdeal := hKernelIdeal)
    ∧ quiescent_KernelIdeal_pre_finite_arguments_KernelIdeal (hKernelIdeal := hKernelIdeal) (hPre_finite_arguments_KernelIdeal := hPre_finite_arguments_KernelIdeal)
    ∧ quiescent_ReferenceIdeal (hReferenceIdeal := hReferenceIdeal)
    ∧ quiescent_ReferenceIdeal_pre_finite_arguments_ReferenceIdeal (hReferenceIdeal := hReferenceIdeal) (hPre_finite_arguments_ReferenceIdeal := hPre_finite_arguments_ReferenceIdeal)
    ∧ preserves_Kernel_KernelIdeal
    ∧ algebraic_KernelIdeal_ReferenceIdeal_pre_finite_arguments_KernelIdeal (hKernelIdeal := hKernelIdeal) (hReferenceIdeal := hReferenceIdeal) (hPre_finite_arguments_KernelIdeal := hPre_finite_arguments_KernelIdeal)
-- ==== Pre_finite_arguments_KernelIdeal.lean ====
abbrev S256x512 : Shape := ⟨2, ![256, 512]⟩
abbrev S512x4096 : Shape := ⟨2, ![512, 4096]⟩
abbrev S_ : Shape := ⟨0, ![]⟩

class Facts : Prop where
  bcast_S_S256x512 : S_.BroadcastsInDim S256x512 (![] : Fin 0 → Fin S256x512.rank)
  bcast_S_S512x4096 : S_.BroadcastsInDim S512x4096 (![] : Fin 0 → Fin S512x4096.rank)

variable [Facts]

def fn {F : FTy → Type} [FloatOps F] (main_arg0 : FVec F S256x512 .bf16) (main_arg1 : FVec F S512x4096 .bf16) : IVec S256x512 1 × IVec S512x4096 1 :=
  let main_v0 : FVec F S256x512 .bf16 := Host.absf main_arg0
  let main_cst : FVec F S_ .bf16 := constant S_ .bf16 0x7F80#16
  let main_v1 : FVec F S256x512 .bf16 := broadcastInDim S256x512 ![] bcast_S_S256x512 main_cst
  let main_v2 : IVec S256x512 1 := cmpf .olt main_v0 main_v1
  let main_v3 : FVec F S512x4096 .bf16 := Host.absf main_arg1
  let main_cst_0 : FVec F S_ .bf16 := constant S_ .bf16 0x7F80#16
  let main_v4 : FVec F S512x4096 .bf16 := broadcastInDim S512x4096 ![] bcast_S_S512x4096 main_cst_0
  let main_v5 : IVec S512x4096 1 := cmpf .olt main_v3 main_v4
  (main_v2, main_v5)
-- ==== Pre_finite_arguments_ReferenceIdeal.lean ====
abbrev S256x512 : Shape := ⟨2, ![256, 512]⟩
abbrev S512x16384 : Shape := ⟨2, ![512, 16384]⟩
abbrev S_ : Shape := ⟨0, ![]⟩

class Facts : Prop where
  bcast_S_S256x512 : S_.BroadcastsInDim S256x512 (![] : Fin 0 → Fin S256x512.rank)
  bcast_S_S512x16384 : S_.BroadcastsInDim S512x16384 (![] : Fin 0 → Fin S512x16384.rank)

variable [Facts]

def fn {F : FTy → Type} [FloatOps F] (main_arg0 : FVec F S256x512 .bf16) (main_arg1 : FVec F S512x16384 .bf16) : IVec S256x512 1 × IVec S512x16384 1 :=
  let main_v0 : FVec F S256x512 .bf16 := Host.absf main_arg0
  let main_cst : FVec F S_ .bf16 := constant S_ .bf16 0x7F80#16
  let main_v1 : FVec F S256x512 .bf16 := broadcastInDim S256x512 ![] bcast_S_S256x512 main_cst
  let main_v2 : IVec S256x512 1 := cmpf .olt main_v0 main_v1
  let main_v3 : FVec F S512x16384 .bf16 := Host.absf main_arg1
  let main_cst_0 : FVec F S_ .bf16 := constant S_ .bf16 0x7F80#16
  let main_v4 : FVec F S512x16384 .bf16 := broadcastInDim S512x16384 ![] bcast_S_S512x16384 main_cst_0
  let main_v5 : IVec S512x16384 1 := cmpf .olt main_v3 main_v4
  (main_v2, main_v5)
-- ==== Kernel.lean ====
abbrev S256x512 : Shape := ⟨2, ![256, 512]⟩
abbrev S512x4096 : Shape := ⟨2, ![512, 4096]⟩
abbrev S256x16384 : Shape := ⟨2, ![256, 16384]⟩
abbrev S4x256x4096 : Shape := ⟨3, ![4, 256, 4096]⟩
abbrev S4x256x1 : Shape := ⟨3, ![4, 256, 1]⟩
abbrev S3 : Shape := ⟨1, ![3]⟩
abbrev S4 : Shape := ⟨1, ![4]⟩
abbrev S_ : Shape := ⟨0, ![]⟩
abbrev S256x4096 : Shape := ⟨2, ![256, 4096]⟩
abbrev S1x256x4096 : Shape := ⟨3, ![1, 256, 4096]⟩
abbrev S256 : Shape := ⟨1, ![256]⟩
abbrev S256x1 : Shape := ⟨2, ![256, 1]⟩
abbrev S1x256x1 : Shape := ⟨3, ![1, 256, 1]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S256x512, .bf16⟩
  | .hbm, ⟨1, _⟩ => ⟨S512x4096, .bf16⟩
  | .hbm, ⟨2, _⟩ => ⟨S256x16384, .f32⟩
  | .local _ .vmem, ⟨0, _⟩ => ⟨S256x512, .bf16⟩
  | .local _ .vmem, ⟨1, _⟩ => ⟨S512x4096, .bf16⟩
  | .local _ .vmem, ⟨2, _⟩ => ⟨S256x16384, .f32⟩
  | .local _ .vmem, ⟨3, _⟩ => ⟨S4x256x4096, .bf16⟩
  | .local _ .vmem, ⟨4, _⟩ => ⟨S4x256x1, .f32⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_25 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_24 : BitVec 32 := 8#32
  let v44 : BitVec 32 := Scalar.muli v2 c8_i32_24
  let v45 : BitVec 32 := Scalar.addi c0_i32_25 v44
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_26 : BitVec 32 := 4#32
  let v46 : BitVec 32 := Scalar.muli v5 c4_i32_26
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c4_i32_17 : BitVec 32 := 4#32
  let c0_i32_18 : BitVec 32 := 0#32
  let v34 : BitVec 1 := Scalar.cmpi .eq c4_i32_17 c0_i32_18
  let c1_i32_19 : BitVec 32 := 1#32
  let v35 : BitVec 32 := Scalar.select v34 c1_i32_19 c4_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c1_i32_27 : BitVec 32 := 1#32
  let v48 : BitVec 32 := Scalar.muli v43 c1_i32_27
  let v49 : BitVec 32 := Scalar.addi v47 v48
  v49.toNat
def k0_dev2 (d0 : Dev nD) : Nat :=
  let c0_i32_37 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_36 : BitVec 32 := 8#32
  let v61 : BitVec 32 := Scalar.muli v2 c8_i32_36
  let v62 : BitVec 32 := Scalar.addi c0_i32_37 v61
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_38 : BitVec 32 := 4#32
  let v63 : BitVec 32 := Scalar.muli v5 c4_i32_38
  let v64 : BitVec 32 := Scalar.addi v62 v63
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_28 : BitVec 32 := 2#32
  let v50 : BitVec 32 := Scalar.addi v8 c2_i32_28
  let c4_i32_29 : BitVec 32 := 4#32
  let c0_i32_30 : BitVec 32 := 0#32
  let v51 : BitVec 1 := Scalar.cmpi .eq c4_i32_29 c0_i32_30
  let c1_i32_31 : BitVec 32 := 1#32
  let v52 : BitVec 32 := Scalar.select v51 c1_i32_31 c4_i32_29
  let v53 : BitVec 32 := Scalar.remsi v50 v52
  let c0_i32_33 : BitVec 32 := 0#32
  let v55 : BitVec 1 := Scalar.cmpi .slt v53 c0_i32_33
  let c0_i32_34 : BitVec 32 := 0#32
  let v56 : BitVec 1 := Scalar.cmpi .slt v52 c0_i32_34
  let v57 : BitVec 1 := Scalar.xori v55 v56
  let c0_i32_32 : BitVec 32 := 0#32
  let v54 : BitVec 1 := Scalar.cmpi .ne v53 c0_i32_32
  let v58 : BitVec 1 := Scalar.andi v57 v54
  let v59 : BitVec 32 := Scalar.addi v53 v52
  let v60 : BitVec 32 := Scalar.select v58 v59 v53
  let c1_i32_39 : BitVec 32 := 1#32
  let v65 : BitVec 32 := Scalar.muli v60 c1_i32_39
  let v66 : BitVec 32 := Scalar.addi v64 v65
  v66.toNat
def k0_dev3 (d0 : Dev nD) : Nat :=
  let c0_i32_48 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_47 : BitVec 32 := 8#32
  let v78 : BitVec 32 := Scalar.muli v2 c8_i32_47
  let v79 : BitVec 32 := Scalar.addi c0_i32_48 v78
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_49 : BitVec 32 := 4#32
  let v80 : BitVec 32 := Scalar.muli v5 c4_i32_49
  let v81 : BitVec 32 := Scalar.addi v79 v80
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v67 : BitVec 32 := Scalar.addi v8 c3_i32
  let c4_i32_40 : BitVec 32 := 4#32
  let c0_i32_41 : BitVec 32 := 0#32
  let v68 : BitVec 1 := Scalar.cmpi .eq c4_i32_40 c0_i32_41
  let c1_i32_42 : BitVec 32 := 1#32
  let v69 : BitVec 32 := Scalar.select v68 c1_i32_42 c4_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let c1_i32_50 : BitVec 32 := 1#32
  let v82 : BitVec 32 := Scalar.muli v77 c1_i32_50
  let v83 : BitVec 32 := Scalar.addi v81 v82
  v83.toNat
def k0_off1 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v90 : Index := Scalar.indexCast v8
  let c0_55 : Index := 0#32
  let c0_56 : Index := 0#32
  ![v90.toNat, 0, 0]
def k0_off2 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v97 : Index := Scalar.indexCast v8
  let c0_58 : Index := 0#32
  let c0_59 : Index := 0#32
  ![v97.toNat, 0, 0]
def k0_off3 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![v8.toNat]
def k0_off4 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_72 : BitVec 32 := 0#32
  let c0_i32_73 : BitVec 32 := 0#32
  ![v8.toNat, 0, 0]
def k0_dev4 (d0 : Dev nD) : Nat :=
  let c0_i32_69 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_68 : BitVec 32 := 8#32
  let v112 : BitVec 32 := Scalar.muli v2 c8_i32_68
  let v113 : BitVec 32 := Scalar.addi c0_i32_69 v112
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_70 : BitVec 32 := 4#32
  let v114 : BitVec 32 := Scalar.muli v5 c4_i32_70
  let v115 : BitVec 32 := Scalar.addi v113 v114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v101 : BitVec 32 := Scalar.addi v8 c1_i32_60
  let c4_i32_61 : BitVec 32 := 4#32
  let c0_i32_62 : BitVec 32 := 0#32
  let v102 : BitVec 1 := Scalar.cmpi .eq c4_i32_61 c0_i32_62
  let c1_i32_63 : BitVec 32 := 1#32
  let v103 : BitVec 32 := Scalar.select v102 c1_i32_63 c4_i32_61
  let v104 : BitVec 32 := Scalar.remsi v101 v103
  let c0_i32_65 : BitVec 32 := 0#32
  let v106 : BitVec 1 := Scalar.cmpi .slt v104 c0_i32_65
  let c0_i32_66 : BitVec 32 := 0#32
  let v107 : BitVec 1 := Scalar.cmpi .slt v103 c0_i32_66
  let v108 : BitVec 1 := Scalar.xori v106 v107
  let c0_i32_64 : BitVec 32 := 0#32
  let v105 : BitVec 1 := Scalar.cmpi .ne v104 c0_i32_64
  let v109 : BitVec 1 := Scalar.andi v108 v105
  let v110 : BitVec 32 := Scalar.addi v104 v103
  let v111 : BitVec 32 := Scalar.select v109 v110 v104
  let c1_i32_71 : BitVec 32 := 1#32
  let v116 : BitVec 32 := Scalar.muli v111 c1_i32_71
  let v117 : BitVec 32 := Scalar.addi v115 v116
  v117.toNat
def k0_dev5 (d0 : Dev nD) : Nat :=
  let c0_i32_85 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_84 : BitVec 32 := 8#32
  let v137 : BitVec 32 := Scalar.muli v2 c8_i32_84
  let v138 : BitVec 32 := Scalar.addi c0_i32_85 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_86 : BitVec 32 := 4#32
  let v139 : BitVec 32 := Scalar.muli v5 c4_i32_86
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_76 : BitVec 32 := 2#32
  let v126 : BitVec 32 := Scalar.addi v8 c2_i32_76
  let c4_i32_77 : BitVec 32 := 4#32
  let c0_i32_78 : BitVec 32 := 0#32
  let v127 : BitVec 1 := Scalar.cmpi .eq c4_i32_77 c0_i32_78
  let c1_i32_79 : BitVec 32 := 1#32
  let v128 : BitVec 32 := Scalar.select v127 c1_i32_79 c4_i32_77
  let v129 : BitVec 32 := Scalar.remsi v126 v128
  let c0_i32_81 : BitVec 32 := 0#32
  let v131 : BitVec 1 := Scalar.cmpi .slt v129 c0_i32_81
  let c0_i32_82 : BitVec 32 := 0#32
  let v132 : BitVec 1 := Scalar.cmpi .slt v128 c0_i32_82
  let v133 : BitVec 1 := Scalar.xori v131 v132
  let c0_i32_80 : BitVec 32 := 0#32
  let v130 : BitVec 1 := Scalar.cmpi .ne v129 c0_i32_80
  let v134 : BitVec 1 := Scalar.andi v133 v130
  let v135 : BitVec 32 := Scalar.addi v129 v128
  let v136 : BitVec 32 := Scalar.select v134 v135 v129
  let c1_i32_87 : BitVec 32 := 1#32
  let v141 : BitVec 32 := Scalar.muli v136 c1_i32_87
  let v142 : BitVec 32 := Scalar.addi v140 v141
  v142.toNat
def k0_dev6 (d0 : Dev nD) : Nat :=
  let c0_i32_101 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_100 : BitVec 32 := 8#32
  let v162 : BitVec 32 := Scalar.muli v2 c8_i32_100
  let v163 : BitVec 32 := Scalar.addi c0_i32_101 v162
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_102 : BitVec 32 := 4#32
  let v164 : BitVec 32 := Scalar.muli v5 c4_i32_102
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_92 : BitVec 32 := 3#32
  let v151 : BitVec 32 := Scalar.addi v8 c3_i32_92
  let c4_i32_93 : BitVec 32 := 4#32
  let c0_i32_94 : BitVec 32 := 0#32
  let v152 : BitVec 1 := Scalar.cmpi .eq c4_i32_93 c0_i32_94
  let c1_i32_95 : BitVec 32 := 1#32
  let v153 : BitVec 32 := Scalar.select v152 c1_i32_95 c4_i32_93
  let v154 : BitVec 32 := Scalar.remsi v151 v153
  let c0_i32_97 : BitVec 32 := 0#32
  let v156 : BitVec 1 := Scalar.cmpi .slt v154 c0_i32_97
  let c0_i32_98 : BitVec 32 := 0#32
  let v157 : BitVec 1 := Scalar.cmpi .slt v153 c0_i32_98
  let v158 : BitVec 1 := Scalar.xori v156 v157
  let c0_i32_96 : BitVec 32 := 0#32
  let v155 : BitVec 1 := Scalar.cmpi .ne v154 c0_i32_96
  let v159 : BitVec 1 := Scalar.andi v158 v155
  let v160 : BitVec 32 := Scalar.addi v154 v153
  let v161 : BitVec 32 := Scalar.select v159 v160 v154
  let c1_i32_103 : BitVec 32 := 1#32
  let v166 : BitVec 32 := Scalar.muli v161 c1_i32_103
  let v167 : BitVec 32 := Scalar.addi v165 v166
  v167.toNat
def k0_off5 (d0 : Dev nD) (c1_i32_108 : BitVec 32) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v176 : BitVec 32 := Scalar.addi v8 c1_i32_108
  let c4_i32_109 : BitVec 32 := 4#32
  let c0_i32_110 : BitVec 32 := 0#32
  let v177 : BitVec 1 := Scalar.cmpi .eq c4_i32_109 c0_i32_110
  let c1_i32_111 : BitVec 32 := 1#32
  let v178 : BitVec 32 := Scalar.select v177 c1_i32_111 c4_i32_109
  let v179 : BitVec 32 := Scalar.remsi v176 v178
  let c0_i32_113 : BitVec 32 := 0#32
  let v181 : BitVec 1 := Scalar.cmpi .slt v179 c0_i32_113
  let c0_i32_114 : BitVec 32 := 0#32
  let v182 : BitVec 1 := Scalar.cmpi .slt v178 c0_i32_114
  let v183 : BitVec 1 := Scalar.xori v181 v182
  let c0_i32_112 : BitVec 32 := 0#32
  let v180 : BitVec 1 := Scalar.cmpi .ne v179 c0_i32_112
  let v184 : BitVec 1 := Scalar.andi v183 v180
  let v185 : BitVec 32 := Scalar.addi v179 v178
  let v186 : BitVec 32 := Scalar.select v184 v185 v179
  ![v186.toNat]
def k0_off6 (d0 : Dev nD) (c1_i32_108 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v176 : BitVec 32 := Scalar.addi v8 c1_i32_108
  let c4_i32_109 : BitVec 32 := 4#32
  let c0_i32_110 : BitVec 32 := 0#32
  let v177 : BitVec 1 := Scalar.cmpi .eq c4_i32_109 c0_i32_110
  let c1_i32_111 : BitVec 32 := 1#32
  let v178 : BitVec 32 := Scalar.select v177 c1_i32_111 c4_i32_109
  let v179 : BitVec 32 := Scalar.remsi v176 v178
  let c0_i32_113 : BitVec 32 := 0#32
  let v181 : BitVec 1 := Scalar.cmpi .slt v179 c0_i32_113
  let c0_i32_114 : BitVec 32 := 0#32
  let v182 : BitVec 1 := Scalar.cmpi .slt v178 c0_i32_114
  let v183 : BitVec 1 := Scalar.xori v181 v182
  let c0_i32_112 : BitVec 32 := 0#32
  let v180 : BitVec 1 := Scalar.cmpi .ne v179 c0_i32_112
  let v184 : BitVec 1 := Scalar.andi v183 v180
  let v185 : BitVec 32 := Scalar.addi v179 v178
  let v186 : BitVec 32 := Scalar.select v184 v185 v179
  let c0_i32_120 : BitVec 32 := 0#32
  let c0_i32_121 : BitVec 32 := 0#32
  ![v186.toNat, 0, 0]
def k0_off7 (d0 : Dev nD) (c0_i32_185 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_184 : BitVec 32 := 4#32
  let v276 : BitVec 32 := Scalar.addi v8 c4_i32_184
  let v277 : BitVec 32 := Scalar.subi v276 c0_i32_185
  let c4_i32_186 : BitVec 32 := 4#32
  let c0_i32_187 : BitVec 32 := 0#32
  let v278 : BitVec 1 := Scalar.cmpi .eq c4_i32_186 c0_i32_187
  let c1_i32_188 : BitVec 32 := 1#32
  let v279 : BitVec 32 := Scalar.select v278 c1_i32_188 c4_i32_186
  let v280 : BitVec 32 := Scalar.remsi v277 v279
  let c0_i32_190 : BitVec 32 := 0#32
  let v282 : BitVec 1 := Scalar.cmpi .slt v280 c0_i32_190
  let c0_i32_191 : BitVec 32 := 0#32
  let v283 : BitVec 1 := Scalar.cmpi .slt v279 c0_i32_191
  let v284 : BitVec 1 := Scalar.xori v282 v283
  let c0_i32_189 : BitVec 32 := 0#32
  let v281 : BitVec 1 := Scalar.cmpi .ne v280 c0_i32_189
  let v285 : BitVec 1 := Scalar.andi v284 v281
  let v286 : BitVec 32 := Scalar.addi v280 v279
  let v287 : BitVec 32 := Scalar.select v285 v286 v280
  let c0_i32_198 : BitVec 32 := 0#32
  let c0_i32_199 : BitVec 32 := 0#32
  ![v287.toNat, 0, 0]
def k0_dev7 (d0 : Dev nD) : Nat :=
  let c0_i32_195 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_194 : BitVec 32 := 8#32
  let v288 : BitVec 32 := Scalar.muli v2 c8_i32_194
  let v289 : BitVec 32 := Scalar.addi c0_i32_195 v288
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_196 : BitVec 32 := 4#32
  let v290 : BitVec 32 := Scalar.muli v5 c4_i32_196
  let v291 : BitVec 32 := Scalar.addi v289 v290
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_197 : BitVec 32 := 1#32
  let v292 : BitVec 32 := Scalar.muli v31 c1_i32_197
  let v293 : BitVec 32 := Scalar.addi v291 v292
  v293.toNat
def k0_off8 (d0 : Dev nD) : Fin 2 → Nat :=
  let c0_202 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32 : BitVec 32 := 4096#32
  let v305 : BitVec 32 := Scalar.muli v8 c4096_i32
  let v306 : Index := Scalar.indexCast v305
  ![0, v306.toNat]
def k0_off9 (d0 : Dev nD) (c0_i32_205 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_203 : BitVec 32 := 4#32
  let v308 : BitVec 32 := Scalar.addi v8 c4_i32_203
  let c1_i32_204 : BitVec 32 := 1#32
  let v309 : BitVec 32 := Scalar.subi v308 c1_i32_204
  let v310 : BitVec 32 := Scalar.subi v309 c0_i32_205
  let c4_i32_206 : BitVec 32 := 4#32
  let c0_i32_207 : BitVec 32 := 0#32
  let v311 : BitVec 1 := Scalar.cmpi .eq c4_i32_206 c0_i32_207
  let c1_i32_208 : BitVec 32 := 1#32
  let v312 : BitVec 32 := Scalar.select v311 c1_i32_208 c4_i32_206
  let v313 : BitVec 32 := Scalar.remsi v310 v312
  let c0_i32_210 : BitVec 32 := 0#32
  let v315 : BitVec 1 := Scalar.cmpi .slt v313 c0_i32_210
  let c0_i32_211 : BitVec 32 := 0#32
  let v316 : BitVec 1 := Scalar.cmpi .slt v312 c0_i32_211
  let v317 : BitVec 1 := Scalar.xori v315 v316
  let c0_i32_209 : BitVec 32 := 0#32
  let v314 : BitVec 1 := Scalar.cmpi .ne v313 c0_i32_209
  let v318 : BitVec 1 := Scalar.andi v317 v314
  let v319 : BitVec 32 := Scalar.addi v313 v312
  let v320 : BitVec 32 := Scalar.select v318 v319 v313
  let c0_i32_218 : BitVec 32 := 0#32
  let c0_i32_219 : BitVec 32 := 0#32
  ![v320.toNat, 0, 0]
def k0_dev8 (d0 : Dev nD) : Nat :=
  let c0_i32_233 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_232 : BitVec 32 := 8#32
  let v345 : BitVec 32 := Scalar.muli v2 c8_i32_232
  let v346 : BitVec 32 := Scalar.addi c0_i32_233 v345
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_234 : BitVec 32 := 4#32
  let v347 : BitVec 32 := Scalar.muli v5 c4_i32_234
  let v348 : BitVec 32 := Scalar.addi v346 v347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_235 : BitVec 32 := 1#32
  let v349 : BitVec 32 := Scalar.muli v31 c1_i32_235
  let v350 : BitVec 32 := Scalar.addi v348 v349
  v350.toNat
def k0_off10 (d0 : Dev nD) (c0_i32_242 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_240 : BitVec 32 := 4#32
  let v359 : BitVec 32 := Scalar.addi v8 c4_i32_240
  let c1_i32_241 : BitVec 32 := 1#32
  let v360 : BitVec 32 := Scalar.subi v359 c1_i32_241
  let v361 : BitVec 32 := Scalar.subi v360 c0_i32_242
  let c4_i32_243 : BitVec 32 := 4#32
  let c0_i32_244 : BitVec 32 := 0#32
  let v362 : BitVec 1 := Scalar.cmpi .eq c4_i32_243 c0_i32_244
  let c1_i32_245 : BitVec 32 := 1#32
  let v363 : BitVec 32 := Scalar.select v362 c1_i32_245 c4_i32_243
  let v364 : BitVec 32 := Scalar.remsi v361 v363
  let c0_i32_247 : BitVec 32 := 0#32
  let v366 : BitVec 1 := Scalar.cmpi .slt v364 c0_i32_247
  let c0_i32_248 : BitVec 32 := 0#32
  let v367 : BitVec 1 := Scalar.cmpi .slt v363 c0_i32_248
  let v368 : BitVec 1 := Scalar.xori v366 v367
  let c0_i32_246 : BitVec 32 := 0#32
  let v365 : BitVec 1 := Scalar.cmpi .ne v364 c0_i32_246
  let v369 : BitVec 1 := Scalar.andi v368 v365
  let v370 : BitVec 32 := Scalar.addi v364 v363
  let v371 : BitVec 32 := Scalar.select v369 v370 v364
  let v372 : Index := Scalar.indexCast v371
  let c0_249 : Index := 0#32
  let c0_250 : Index := 0#32
  ![v372.toNat, 0, 0]
def k0_off11 (d0 : Dev nD) (c0_i32_242 : BitVec 32) : Fin 2 → Nat :=
  let c0_252 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_240 : BitVec 32 := 4#32
  let v359 : BitVec 32 := Scalar.addi v8 c4_i32_240
  let c1_i32_241 : BitVec 32 := 1#32
  let v360 : BitVec 32 := Scalar.subi v359 c1_i32_241
  let v361 : BitVec 32 := Scalar.subi v360 c0_i32_242
  let c4_i32_243 : BitVec 32 := 4#32
  let c0_i32_244 : BitVec 32 := 0#32
  let v362 : BitVec 1 := Scalar.cmpi .eq c4_i32_243 c0_i32_244
  let c1_i32_245 : BitVec 32 := 1#32
  let v363 : BitVec 32 := Scalar.select v362 c1_i32_245 c4_i32_243
  let v364 : BitVec 32 := Scalar.remsi v361 v363
  let c0_i32_247 : BitVec 32 := 0#32
  let v366 : BitVec 1 := Scalar.cmpi .slt v364 c0_i32_247
  let c0_i32_248 : BitVec 32 := 0#32
  let v367 : BitVec 1 := Scalar.cmpi .slt v363 c0_i32_248
  let v368 : BitVec 1 := Scalar.xori v366 v367
  let c0_i32_246 : BitVec 32 := 0#32
  let v365 : BitVec 1 := Scalar.cmpi .ne v364 c0_i32_246
  let v369 : BitVec 1 := Scalar.andi v368 v365
  let v370 : BitVec 32 := Scalar.addi v364 v363
  let v371 : BitVec 32 := Scalar.select v369 v370 v364
  let c4096_i32_251 : BitVec 32 := 4096#32
  let v379 : BitVec 32 := Scalar.muli v371 c4096_i32_251
  let v380 : Index := Scalar.indexCast v379
  ![0, v380.toNat]
def k0_dev9 (d0 : Dev nD) : Nat :=
  let c0_i32_290 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_289 : BitVec 32 := 8#32
  let v425 : BitVec 32 := Scalar.muli v2 c8_i32_289
  let v426 : BitVec 32 := Scalar.addi c0_i32_290 v425
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_291 : BitVec 32 := 4#32
  let v427 : BitVec 32 := Scalar.muli v5 c4_i32_291
  let v428 : BitVec 32 := Scalar.addi v426 v427
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_292 : BitVec 32 := 1#32
  let v429 : BitVec 32 := Scalar.muli v31 c1_i32_292
  let v430 : BitVec 32 := Scalar.addi v428 v429
  v430.toNat
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S256x512 : Shape := ⟨2, ![256, 512]⟩
abbrev S512x16384 : Shape := ⟨2, ![512, 16384]⟩
abbrev S256x16384 : Shape := ⟨2, ![256, 16384]⟩
abbrev S_ : Shape := ⟨0, ![]⟩
abbrev S256 : Shape := ⟨1, ![256]⟩
abbrev S256x1 : Shape := ⟨2, ![256, 1]⟩

abbrev nBuf : Space → Nat
  | .hbm => 16
  | .vmem => 0
  | .smem => 0
  | _ => 0

abbrev bufTy : (tb : Table) → Fin (tcTables nBuf tb) → BufTy
  | .hbm, ⟨0, _⟩ => ⟨S256x512, .bf16⟩
  | .hbm, ⟨1, _⟩ => ⟨S512x16384, .bf16⟩
  | .hbm, ⟨2, _⟩ => ⟨S256x512, .f32⟩
  | .hbm, ⟨3, _⟩ => ⟨S512x16384, .f32⟩
  | .hbm, ⟨4, _⟩ => ⟨S256x16384, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x16384, .f32⟩
  | .hbm, ⟨9, _⟩ => ⟨S256x16384, .f32⟩
  | .hbm, ⟨10, _⟩ => ⟨S256x16384, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S256x16384, .f32⟩
  | .hbm, ⟨15, _⟩ => ⟨S256x16384, .f32⟩
  | _, _ => ⟨S256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.KernelIdeal.Mesh.lean ====
/-
# The mesh, the semaphores and the slots of the kernel

Device `c` of the sixteen is the `c % 4`-th of its group of four along `z`. This module names the devices a kernel
invocation talks to, closes the printed index chains, names the semaphores, and describes the four slots of the two
scratch buffers and the four column blocks of the result.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe

/-! ## The devices -/

/-- A device's place in its group. -/
def zc (c : Dev nD) : Fin 4 := ⟨c.val % 4, Nat.mod_lt _ (by decide)⟩
/-- The `j`-th device of `c`'s group. -/
def pa (c : Dev nD) (j : Fin 4) : Dev nD :=
  ⟨4 * (c.val / 4) + j.val, by have h := c.isLt; have hj := j.isLt; simp only [nD] at h ⊢; omega⟩
/-- The device `k` places after `c` in its group. -/
abbrev peer (c : Dev nD) (k : Fin 4) : Dev nD := pa c (zc c + k)
/-- The device after `c` in its group. -/
def nxt (c : Dev nD) : Dev nD := pa c (zc c + 1)
/-- The device before `c` in its group. -/
def prv (c : Dev nD) : Dev nD := pa c (zc c - 1)
/-- The slot `h` places before `c`'s own. -/
def sl (c : Dev nD) (h : Fin 4) : Fin 4 := zc c - h

theorem zc_pa (c : Dev nD) (j : Fin 4) : zc (pa c j) = j := by revert c j; decide +kernel
theorem pa_pa (c : Dev nD) (i j : Fin 4) : pa (pa c i) j = pa c j := by revert c i j; decide +kernel
theorem pa_zc (c : Dev nD) : pa c (zc c) = c := by revert c; decide +kernel
theorem pa_nxt (c : Dev nD) (j : Fin 4) : pa (nxt c) j = pa c j := pa_pa _ _ _
theorem pa_prv (c : Dev nD) (j : Fin 4) : pa (prv c) j = pa c j := pa_pa _ _ _
theorem pa_peer (c : Dev nD) (k j : Fin 4) : pa (peer c k) j = pa c j := pa_pa _ _ _
theorem zc_peer (c : Dev nD) (k : Fin 4) : zc (peer c k) = zc c + k := zc_pa _ _
theorem prv_nxt (c : Dev nD) : prv (nxt c) = c := by revert c; decide +kernel
theorem nxt_prv (c : Dev nD) : nxt (prv c) = c := by revert c; decide +kernel
theorem peer_peer1 (c : Dev nD) : peer (peer c 1) 3 = c := by revert c; decide +kernel
theorem peer_peer2 (c : Dev nD) : peer (peer c 2) 2 = c := by revert c; decide +kernel
theorem peer_peer3 (c : Dev nD) : peer (peer c 3) 1 = c := by revert c; decide +kernel
theorem sl_nxt (c : Dev nD) (h : Fin 4) : sl (nxt c) (h + 1) = sl c h := by revert c h; decide +kernel
theorem sl_zero (c : Dev nD) : sl c 0 = zc c := by revert c; decide +kernel

theorem dev1_eq (c : Dev nD) : (⟨k0_dev1 c, k0_dev1_lt c⟩ : Dev nD) = peer c 1 := by revert c; decide +kernel
theorem dev2_eq (c : Dev nD) : (⟨k0_dev2 c, k0_dev2_lt c⟩ : Dev nD) = peer c 2 := by revert c; decide +kernel
theorem dev3_eq (c : Dev nD) : (⟨k0_dev3 c, k0_dev3_lt c⟩ : Dev nD) = peer c 3 := by revert c; decide +kernel
theorem dev4_eq (c : Dev nD) : (⟨k0_dev4 c, k0_dev4_lt c⟩ : Dev nD) = peer c 1 := by revert c; decide +kernel
theorem dev5_eq (c : Dev nD) : (⟨k0_dev5 c, k0_dev5_lt c⟩ : Dev nD) = peer c 2 := by revert c; decide +kernel
theorem dev6_eq (c : Dev nD) : (⟨k0_dev6 c, k0_dev6_lt c⟩ : Dev nD) = peer c 3 := by revert c; decide +kernel
theorem dev7_eq (c : Dev nD) : (⟨k0_dev7 c, k0_dev7_lt c⟩ : Dev nD) = nxt c := by revert c; decide +kernel
theorem dev8_eq (c : Dev nD) : (⟨k0_dev8 c, k0_dev8_lt c⟩ : Dev nD) = nxt c := by revert c; decide +kernel
theorem dev9_eq (c : Dev nD) : (⟨k0_dev9 c, k0_dev9_lt c⟩ : Dev nD) = nxt c := by revert c; decide +kernel

/-! ## The offsets -/

/-- Where slot `j` of either scratch buffer begins, and where the `j`-th column block of the result does. -/
def sOff (j : Fin 4) : Fin 3 → ℕ := ![j.val, 0, 0]
def oOff (j : Fin 4) : Fin 2 → ℕ := ![0, 4096 * j.val]

theorem off1_eq (c : Dev nD) : k0_off1 c = sOff (zc c) := k0_off1_eq c
theorem off2_eq (c : Dev nD) : k0_off2 c = sOff (zc c) := k0_off2_eq c
theorem off4_eq (c : Dev nD) : k0_off4 c = sOff (zc c) := k0_off4_eq c
theorem off8_eq (c : Dev nD) : k0_off8 c = oOff (zc c) := k0_off8_eq c
theorem off3_eq (c : Dev nD) : k0_off3 c = ![(zc c).val] := k0_off3_eq c
theorem off5_1 (c : Dev nD) : k0_off5 c 1#32 = ![(zc c + 1).val] := by revert c; decide +kernel
theorem off5_2 (c : Dev nD) : k0_off5 c 2#32 = ![(zc c + 2).val] := by revert c; decide +kernel
theorem off5_3 (c : Dev nD) : k0_off5 c 3#32 = ![(zc c + 3).val] := by revert c; decide +kernel
theorem off6_1 (c : Dev nD) : k0_off6 c 1#32 = sOff (zc c + 1) := by revert c; decide +kernel
theorem off6_2 (c : Dev nD) : k0_off6 c 2#32 = sOff (zc c + 2) := by revert c; decide +kernel
theorem off6_3 (c : Dev nD) : k0_off6 c 3#32 = sOff (zc c + 3) := by revert c; decide +kernel
theorem off7_0 (c : Dev nD) : k0_off7 c 0#32 = sOff (sl c 0) := by revert c; decide +kernel
theorem off7_1 (c : Dev nD) : k0_off7 c 1#32 = sOff (sl c 1) := by revert c; decide +kernel
theorem off7_2 (c : Dev nD) : k0_off7 c 2#32 = sOff (sl c 2) := by revert c; decide +kernel
theorem off9_0 (c : Dev nD) : k0_off9 c 0#32 = sOff (sl c 1) := by revert c; decide +kernel
theorem off9_1 (c : Dev nD) : k0_off9 c 1#32 = sOff (sl c 2) := by revert c; decide +kernel
theorem off9_2 (c : Dev nD) : k0_off9 c 2#32 = sOff (sl c 3) := by revert c; decide +kernel
theorem off10_0 (c : Dev nD) : k0_off10 c 0#32 = sOff (sl c 1) := by revert c; decide +kernel
theorem off10_1 (c : Dev nD) : k0_off10 c 1#32 = sOff (sl c 2) := by revert c; decide +kernel
theorem off10_2 (c : Dev nD) : k0_off10 c 2#32 = sOff (sl c 3) := by revert c; decide +kernel
theorem off11_0 (c : Dev nD) : k0_off11 c 0#32 = oOff (sl c 1) := by revert c; decide +kernel
theorem off11_1 (c : Dev nD) : k0_off11 c 1#32 = oOff (sl c 2) := by revert c; decide +kernel
theorem off11_2 (c : Dev nD) : k0_off11 c 2#32 = oOff (sl c 3) := by revert c; decide +kernel

/-! ## The semaphores -/

/-- The semaphores of one device's protocol: the barrier, the send and receive semaphores of the ring of blocks, the
    send and receive semaphores of the exchange of partial sums. -/
inductive CK where
  | bar
  | cs (h : Fin 3)
  | cr (h : Fin 3)
  | ps (k : Fin 3)
  | pr (j : Fin 4)
  deriving DecidableEq

/-- All of them, listed. -/
def allCK : List CK :=
  [.bar, .cs 0, .cs 1, .cs 2, .cr 0, .cr 1, .cr 2, .ps 0, .ps 1, .ps 2, .pr 0, .pr 1, .pr 2, .pr 3]

theorem mem_allCK (k : CK) : k ∈ allCK := by
  rcases k with _ | h | h | h | h
  · decide
  all_goals (revert h; decide)

instance : Fintype CK := ⟨allCK.toFinset, fun k => List.mem_toFinset.mpr (mem_allCK k)⟩

theorem univ_CK : (Finset.univ : Finset CK) = allCK.toFinset := rfl
theorem nodup_allCK : allCK.Nodup := by decide

/-- The runtime's barrier semaphore. -/
abbrev barS : Sem sig := (SemArray.scalar (sig.barrier 0 rfl) : Sems sig S_).sem

theorem inb3 (h : Fin 3) : ∀ a, (![h.val] : Fin 1 → ℕ) a + S1.size a ≤ S3.size a := by revert h; decide +kernel
theorem inb4 (j : Fin 4) : ∀ a, (![j.val] : Fin 1 → ℕ) a + S1.size a ≤ S4.size a := by revert j; decide +kernel

/-- Entry `h` of an array of three semaphores, entry `j` of an array of four. -/
abbrev sem3 (a : DmaSems sig S3) (h : Fin 3) : DmaSem sig :=
  ((a.slice (Rect.unit (s := S3) ![h.val] S1.size (inb3 h))).squeeze S_ squeezes_S1_S_).sem
abbrev sem4 (a : DmaSems sig S4) (j : Fin 4) : DmaSem sig :=
  ((a.slice (Rect.unit (s := S4) ![j.val] S1.size (inb4 j))).squeeze S_ squeezes_S1_S_).sem

def csem : CK → SemLoc sig
  | .bar => .reg barS
  | .cs h => .dma (sem3 cc0_scratch2 h)
  | .cr h => .dma (sem3 cc0_scratch3 h)
  | .ps k => .dma (sem3 cc0_scratch4 k)
  | .pr j => .dma (sem4 cc0_scratch5 j)

abbrev kcell (x : Dev nD × CK) : GSem nD τ sig := ((x.1 : Thread nD τ), csem x.2)

theorem csem_injective : Function.Injective csem := by
  have : ∀ k k', csem k = csem k' → k = k' := by decide +kernel
  exact fun k k' h => this k k' h

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

open Classical in
/-- Which of the protocol's semaphores a semaphore is (`none` for every other one). -/
def ixOf (s : SemLoc sig) : Option CK := if h : ∃ k, csem k = s then some h.choose else none

theorem ixOf_csem (k : CK) : ixOf (csem k) = some k := by
  have h : ∃ k', csem k' = csem k := ⟨k, rfl⟩
  unfold ixOf; rw [dif_pos h, csem_injective h.choose_spec]

theorem sem4_eq {off : Fin 1 → ℕ} {j : Fin 4} (h : off = ![j.val]) (inb : ∀ a, off a + S1.size a ≤ S4.size a) :
    ((cc0_scratch5.slice (Rect.unit (s := S4) off S1.size inb)).squeeze S_ squeezes_S1_S_).sem = sem4 cc0_scratch5 j := by
  subst h; rfl

/-- No staging semaphore is one of the protocol's. -/
theorem ixOf_stage (q : DmaSem sig) (h : ∀ k, csem k ≠ .dma q) : ixOf (.dma q) = none := by
  unfold ixOf; rw [dif_neg]; rintro ⟨k, hk⟩; exact h k hk

end Cert.KernelIdealProof

end

end
-- ==== Proof.KernelIdeal.Slots.lean ====
/-
# The slots and their contents

The four slots of the two scratch buffers as index sets, what they hold once every device of a group has sent its
part (`SL`: the blocks of logits in bf16; `PS`: the partial sums of the exponentials), and what a load, a store and
a landing copy do to one slot. The four column blocks of the result likewise (`OUT`).
-/
module

public import proofs.«01_k».proof.Proof.KernelIdeal.Mesh

@[expose] public section

noncomputable section

namespace Cert.KernelIdealProof

open Cert.KernelIdeal Cert.KernelIdeal.Gen

open Idealize.ShloMosaic
open Idealize.ShloMosaic.TcCoe

variable {F : FTy → Type} [FloatOps F]

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The buffers and the slots -/

abbrev xM : Memref sig .tc .vmem S256x512 .bf16 := Memref.whole cc0_stg0_0
abbrev wM : Memref sig .tc .vmem S512x4096 .bf16 := Memref.whole cc0_stg1_0
abbrev oM : Memref sig .tc .vmem S256x16384 .f32 := Memref.whole cc0_stg2_0
abbrev sM : Memref sig .tc .vmem S4x256x4096 .bf16 := Memref.whole cc0_scratch0
abbrev pM : Memref sig .tc .vmem S4x256x1 .f32 := Memref.whole cc0_scratch1

abbrev sRect (off : Fin 3 → ℕ) (inb : ∀ a, off a + S1x256x4096.size a ≤ S4x256x4096.size a) : Rect S4x256x4096 :=
  Rect.unit (s := S4x256x4096) off S1x256x4096.size inb
abbrev pRect (off : Fin 3 → ℕ) (inb : ∀ a, off a + S1x256x1.size a ≤ S4x256x1.size a) : Rect S4x256x1 :=
  Rect.unit (s := S4x256x1) off S1x256x1.size inb
abbrev oRect (off : Fin 2 → ℕ) (inb : ∀ a, off a + S256x4096.size a ≤ S256x16384.size a) : Rect S256x16384 :=
  Rect.unit (s := S256x16384) off S256x4096.size inb

/-- A slot of a scratch buffer as the copies see it, its unit axis dropped. -/
abbrev sSlot (off : Fin 3 → ℕ) (inb : ∀ a, off a + S1x256x4096.size a ≤ S4x256x4096.size a) :
    Memref sig .tc .vmem S256x4096 .bf16 :=
  (sM.slice (sRect off inb) (fun _ => rfl)).squeeze S256x4096 squeezes_S1x256x4096_S256x4096
abbrev pSlot (off : Fin 3 → ℕ) (inb : ∀ a, off a + S1x256x1.size a ≤ S4x256x1.size a) :
    Memref sig .tc .vmem S256x1 .f32 :=
  (pM.slice (pRect off inb) (fun _ => rfl)).squeeze S256x1 squeezes_S1x256x1_S256x1

/-- The elements of slot `j`, and of column block `j` of the result. -/
def sSet (j : Fin 4) : Finset S4x256x4096.Idx := Finset.univ.filter fun i => (i 0 : ℕ) = j.val
def pSet (j : Fin 4) : Finset S4x256x1.Idx := Finset.univ.filter fun i => (i 0 : ℕ) = j.val
def oSet (j : Fin 4) : Finset S256x16384.Idx := Finset.univ.filter fun i => (i 1 : ℕ) / 4096 = j.val

theorem mem_sSet {j : Fin 4} {i : S4x256x4096.Idx} : i ∈ sSet j ↔ (i 0 : ℕ) = j.val := by simp [sSet]
theorem mem_pSet {j : Fin 4} {i : S4x256x1.Idx} : i ∈ pSet j ↔ (i 0 : ℕ) = j.val := by simp [pSet]
theorem mem_oSet {j : Fin 4} {i : S256x16384.Idx} : i ∈ oSet j ↔ (i 1 : ℕ) / 4096 = j.val := by simp [oSet]

theorem sRect_set (j : Fin 4) (inb) : (sRect (sOff j) inb).set = sSet j := by
  ext i
  rw [Rect.mem_set_unit, mem_sSet]
  have h1 := (i 1).isLt
  have h2 := (i 2).isLt
  simp only [Fin.forall_fin_succ, sOff]
  simp [S1x256x4096, S4x256x4096] at h1 h2 ⊢
  omega

theorem pRect_set (j : Fin 4) (inb) : (pRect (sOff j) inb).set = pSet j := by
  ext i
  rw [Rect.mem_set_unit, mem_pSet]
  have h1 := (i 1).isLt
  have h2 := (i 2).isLt
  simp only [Fin.forall_fin_succ, sOff]
  simp [S1x256x1, S4x256x1] at h1 h2 ⊢
  omega

theorem oRect_set (j : Fin 4) (inb) : (oRect (oOff j) inb).set = oSet j := by
  ext i
  rw [Rect.mem_set_unit, mem_oSet]
  have h0 := (i 0).isLt
  simp only [Fin.forall_fin_succ, oOff]
  simp [S256x4096, S256x16384] at h0 ⊢
  omega

theorem sSlot_set (j : Fin 4) (inb) : (sSlot (sOff j) inb).view.set = sSet j := by
  exact (View.set_reshape _ _).trans ((View.set_slice_whole _ _).trans (sRect_set j inb))
theorem pSlot_set (j : Fin 4) (inb) : (pSlot (sOff j) inb).view.set = pSet j := by
  exact (View.set_reshape _ _).trans ((View.set_slice_whole _ _).trans (pRect_set j inb))

theorem sSet_disjoint {i j : Fin 4} (h : i ≠ j) : Disjoint (sSet i) (sSet j) :=
  Finset.disjoint_left.mpr fun x hi hj => h (Fin.ext ((mem_sSet.mp hi).symm.trans (mem_sSet.mp hj)))
theorem pSet_disjoint {i j : Fin 4} (h : i ≠ j) : Disjoint (pSet i) (pSet j) :=
  Finset.disjoint_left.mpr fun x hi hj => h (Fin.ext ((mem_pSet.mp hi).symm.trans (mem_pSet.mp hj)))
theorem oSet_disjoint {i j : Fin 4} (h : i ≠ j) : Disjoint (oSet i) (oSet j) :=
  Finset.disjoint_left.mpr fun x hi hj => h (Fin.ext ((mem_oSet.mp hi).symm.trans (mem_oSet.mp hj)))

theorem sSet_cover : (Finset.univ : Finset S4x256x4096.Idx) = Finset.univ.biUnion sSet := by
  ext i
  simp only [Finset.mem_univ, Finset.mem_biUnion, true_and, true_iff]
  exact ⟨⟨(i 0).val, (i 0).isLt⟩, mem_sSet.mpr rfl⟩
theorem pSet_cover : (Finset.univ : Finset S4x256x1.Idx) = Finset.univ.biUnion pSet := by
  ext i
  simp only [Finset.mem_univ, Finset.mem_biUnion, true_and, true_iff]
  exact ⟨⟨(i 0).val, (i 0).isLt⟩, mem_pSet.mpr rfl⟩

/-! ## The contents -/

/-- Device `c`'s two operands, as staged. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- The block of logits device `c` computes, rounded to bf16, and the partial sums of their exponentials. -/
def blkOf (c : Dev nD) : FVec F S1x256x4096 .bf16 := k0_pay2 (xstg m ρ c) (wstg m ρ c)
def psumOf (c : Dev nD) : FVec F S1x256x1 .f32 := k0_pay3 (xstg m ρ c) (wstg m ρ c)

/-- An element's place within its slot. -/
def sIn (i : S4x256x4096.Idx) : S1x256x4096.Idx := Fin.cons (0 : Fin 1) (Fin.cons (i 1) (Fin.cons (i 2) finZeroElim))
def pIn (i : S4x256x1.Idx) : S1x256x1.Idx := Fin.cons (0 : Fin 1) (Fin.cons (i 1) (Fin.cons (i 2) finZeroElim))

/-- The slots once full: slot `j` holds the block (the partial sums) of the group's `j`-th device. -/
def SL (c : Dev nD) : (cc0_scratch0 : Ref sig .tc).ty.Contents (Elt F) :=
  fun (i : S4x256x4096.Idx) => blkOf m ρ (pa c ⟨(i 0).val, (i 0).isLt⟩) (sIn i)
def PS (c : Dev nD) : (cc0_scratch1 : Ref sig .tc).ty.Contents (Elt F) :=
  fun (i : S4x256x1.Idx) => psumOf m ρ (pa c ⟨(i 0).val, (i 0).isLt⟩) (pIn i)

theorem SL_pa (c : Dev nD) (j : Fin 4) : SL m ρ (pa c j) = SL m ρ c := by unfold SL; simp only [pa_pa]
theorem PS_pa (c : Dev nD) (j : Fin 4) : PS m ρ (pa c j) = PS m ρ c := by unfold PS; simp only [pa_pa]

theorem sRect_emb0 (j : Fin 4) (inb) (x : S1x256x4096.Idx) : (((sRect (sOff j) inb).emb x) 0 : ℕ) = j.val := by
  rw [Rect.emb_apply]
  have h := (x 0).isLt
  simp [S1x256x4096, sOff, Rect.unit] at h ⊢
  simpa using h
theorem pRect_emb0 (j : Fin 4) (inb) (x : S1x256x1.Idx) : (((pRect (sOff j) inb).emb x) 0 : ℕ) = j.val := by
  rw [Rect.emb_apply]
  have h := (x 0).isLt
  simp [S1x256x1, sOff, Rect.unit] at h ⊢
  simpa using h

theorem sIn_emb (j : Fin 4) (inb) (x : S1x256x4096.Idx) : sIn ((sRect (sOff j) inb).emb x) = x := by
  funext a
  refine Fin.cases ?_ (fun a => ?_) a
  · exact Subsingleton.elim (α := Fin 1) _ _
  · refine Fin.cases ?_ (fun a => ?_) a
    · apply Fin.ext; show (((sRect (sOff j) inb).emb x) 1 : ℕ) = _
      rw [Rect.emb_apply]; simp [sOff, Rect.unit]
    · refine Fin.cases ?_ (fun a => a.elim0) a
      apply Fin.ext; show (((sRect (sOff j) inb).emb x) 2 : ℕ) = _
      rw [Rect.emb_apply]; simp [sOff, Rect.unit]
theorem pIn_emb (j : Fin 4) (inb) (x : S1x256x1.Idx) : pIn ((pRect (sOff j) inb).emb x) = x := by
  funext a
  refine Fin.cases ?_ (fun a => ?_) a
  · exact Subsingleton.elim (α := Fin 1) _ _
  · refine Fin.cases ?_ (fun a => ?_) a
    · apply Fin.ext; show (((pRect (sOff j) inb).emb x) 1 : ℕ) = _
      rw [Rect.emb_apply]; simp [sOff, Rect.unit]
    · refine Fin.cases ?_ (fun a => a.elim0) a
      apply Fin.ext; show (((pRect (sOff j) inb).emb x) 2 : ℕ) = _
      rw [Rect.emb_apply]; simp [sOff, Rect.unit]

theorem SL_emb (c : Dev nD) (j : Fin 4) (inb) (x : S1x256x4096.Idx) :
    SL m ρ c ((sRect (sOff j) inb).emb x) = blkOf m ρ (pa c j) x := by
  unfold SL
  rw [sIn_emb, show (⟨(((sRect (sOff j) inb).emb x) 0).val, (((sRect (sOff j) inb).emb x) 0).isLt⟩ : Fin 4) = j from
    Fin.ext (sRect_emb0 j inb x)]
theorem PS_emb (c : Dev nD) (j : Fin 4) (inb) (x : S1x256x1.Idx) :
    PS m ρ c ((pRect (sOff j) inb).emb x) = psumOf m ρ (pa c j) x := by
  unfold PS
  rw [pIn_emb, show (⟨(((pRect (sOff j) inb).emb x) 0).val, (((pRect (sOff j) inb).emb x) 0).isLt⟩ : Fin 4) = j from
    Fin.ext (pRect_emb0 j inb x)]

/-- Loading a full slot. -/
theorem read_SL (c : Dev nD) (j : Fin 4) {off} (hoff : off = sOff j) (inb) :
    sM.view.readAt (Elt F) (sRect off inb).toLoadRect (SL m ρ c) = blkOf m ρ (pa c j) := by
  subst hoff; funext x; exact SL_emb m ρ c j inb x
theorem read_PS (c : Dev nD) (j : Fin 4) {off} (hoff : off = sOff j) (inb) :
    pM.view.readAt (Elt F) (pRect off inb).toLoadRect (PS m ρ c) = psumOf m ρ (pa c j) := by
  subst hoff; funext x; exact PS_emb m ρ c j inb x

/-- Storing its own block (partial sums) leaves device `c`'s own slot as the full one. -/
theorem write_SL (c : Dev nD) {off} (hoff : off = sOff (zc c)) (inb) (f : (cc0_scratch0 : Ref sig .tc).ty.Contents (Elt F)) :
    ∀ i ∈ sSet (zc c), (sM.access (sRect off inb)).write (Elt F) f (blkOf m ρ c) Finset.univ i = SL m ρ c i := by
  subst hoff
  intro i hi
  rw [← sRect_set (zc c) inb, ← Rect.map_emb_univ] at hi
  obtain ⟨x, -, rfl⟩ := Finset.mem_map.mp hi
  rw [SL_emb, pa_zc]
  exact View.write_emb_of_mem (v := sM.access (sRect (sOff (zc c)) inb)) f (blkOf m ρ c) (Finset.mem_univ x)
theorem write_PS (c : Dev nD) {off} (hoff : off = sOff (zc c)) (inb) (f : (cc0_scratch1 : Ref sig .tc).ty.Contents (Elt F)) :
    ∀ i ∈ pSet (zc c), (pM.access (pRect off inb)).write (Elt F) f (psumOf m ρ c) Finset.univ i = PS m ρ c i := by
  subst hoff
  intro i hi
  rw [← pRect_set (zc c) inb, ← Rect.map_emb_univ] at hi
  obtain ⟨x, -, rfl⟩ := Finset.mem_map.mp hi
  rw [PS_emb, pa_zc]
  exact View.write_emb_of_mem (v := pM.access (pRect (sOff (zc c)) inb)) f (psumOf m ρ c) (Finset.mem_univ x)

/-- A copy of a slot onto the same slot of another device leaves there what the source held. -/
theorem land_s (j : Fin 4) (inb) (fd g : (cc0_scratch0 : Ref sig .tc).ty.Contents (Elt F)) :
    ∀ i ∈ sSet j, (sSlot (sOff j) inb).view.write (Elt F) fd ((sSlot (sOff j) inb).view.read (Elt F) g) Finset.univ i = g i := by
  intro i hi
  rw [View.write_read_eq_piecewise]
  exact Finset.piecewise_eq_of_mem _ _ _ (by rw [View.setOn_univ, sSlot_set]; exact hi)
theorem land_p (j : Fin 4) (inb) (fd g : (cc0_scratch1 : Ref sig .tc).ty.Contents (Elt F)) :
    ∀ i ∈ pSet j, (pSlot (sOff j) inb).view.write (Elt F) fd ((pSlot (sOff j) inb).view.read (Elt F) g) Finset.univ i = g i := by
  intro i hi
  rw [View.write_read_eq_piecewise]
  exact Finset.piecewise_eq_of_mem _ _ _ (by rw [View.setOn_univ, pSlot_set]; exact hi)

/-! ## The result -/

/-- The reciprocal of the whole row sum, as every device of the group computes it. -/
def invOf (c : Dev nD) : FVec F S256x1 .f32 :=
  k0_pay5 (k0_pay4 (psumOf m ρ (pa c 0)) (psumOf m ρ (pa c 1)) (psumOf m ρ (pa c 2))) (psumOf m ρ (pa c 3))
/-- Column block `j` of device `c`'s result. -/
def outBlk (c : Dev nD) (j : Fin 4) : FVec F S256x4096 .f32 :=
  if j = zc c then
    k0_pay6 (k0_pay1 (xstg m ρ c) (wstg m ρ c))
      (k0_pay4 (psumOf m ρ (pa c 0)) (psumOf m ρ (pa c 1)) (psumOf m ρ (pa c 2))) (psumOf m ρ (pa c 3))
  else k0_pay8 (invOf m ρ c) (k0_pay7 (blkOf m ρ (pa c j)))

/-- An element's place within its column block. -/
def oIn (i : S256x16384.Idx) : S256x4096.Idx :=
  Fin.cons (i 0) (Fin.cons (⟨(i 1).val % 4096, Nat.mod_lt _ (by decide)⟩ : Fin 4096) finZeroElim)

/-- Device `c`'s result. -/
def OUT (c : Dev nD) : (cc0_stg2_0 : Ref sig .tc).ty.Contents (Elt F) :=
  fun (i : S256x16384.Idx) =>
    outBlk m ρ c ⟨(i 1).val / 4096, Nat.div_lt_of_lt_mul (i 1).isLt⟩ (oIn i)

theorem oRect_emb1 (j : Fin 4) (inb) (x : S256x4096.Idx) :
    (((oRect (oOff j) inb).emb x) 1 : ℕ) = 4096 * j.val + (x 1 : ℕ) := by
  rw [Rect.emb_apply]; simp [oOff, Rect.unit]
theorem oIn_emb (j : Fin 4) (inb) (x : S256x4096.Idx) : oIn ((oRect (oOff j) inb).emb x) = x := by
  have h1 := (x 1).isLt
  simp [S256x4096] at h1
  funext a
  refine Fin.cases ?_ (fun a => ?_) a
  · apply Fin.ext; show (((oRect (oOff j) inb).emb x) 0 : ℕ) = _
    rw [Rect.emb_apply]; simp [oOff, Rect.unit]
  · refine Fin.cases ?_ (fun a => a.elim0) a
    apply Fin.ext; show (((oRect (oOff j) inb).emb x) 1 : ℕ) % 4096 = (x 1 : ℕ)
    rw [oRect_emb1]; omega
theorem OUT_emb (c : Dev nD) (j : Fin 4) (inb) (x : S256x4096.Idx) :
    OUT m ρ c ((oRect (oOff j) inb).emb x) = outBlk m ρ c j x := by
  have h1 := (x 1).isLt
  simp [S256x4096] at h1
  have h := oRect_emb1 j inb x
  unfold OUT
  rw [oIn_emb]
  congr 1
  apply Fin.ext
  show (((oRect (oOff j) inb).emb x) 1 : ℕ) / 4096 = j.val
  rw [h]; omega

/-- Storing column block `j`: it agrees with the result afterwards there, and wherever it did before. -/
theorem write_OUT (c : Dev nD) (j : Fin 4) {off} (hoff : off = oOff j) (inb)
    (f : (cc0_stg2_0 : Ref sig .tc).ty.Contents (Elt F)) (w : FVec F S256x4096 .f32) (hw : w = outBlk m ρ c j)
    (S : Finset (Fin 4)) (hf : ∀ k ∈ S, ∀ i ∈ oSet k, f i = OUT m ρ c i) :
    ∀ k ∈ insert j S, ∀ i ∈ oSet k, (oM.access (oRect off inb)).write (Elt F) f w Finset.univ i = OUT m ρ c i := by
  subst hoff hw
  intro k hk i hi
  by_cases hkj : k = j
  · subst hkj
    rw [← oRect_set k inb, ← Rect.map_emb_univ] at hi
    obtain ⟨x, -, rfl⟩ := Finset.mem_map.mp hi
    rw [OUT_emb]
    exact View.write_emb_of_mem (v := oM.access (oRect (oOff k) inb)) f _ (Finset.mem_univ x)
  · rw [View.write_of_not_mem]
    · exact hf k (Finset.mem_of_mem_insert_of_ne hk hkj) i hi
    · rw [View.setOn_univ]
      show i ∉ ((View.whole cc0_stg2_0).slice (oRect (oOff j) inb)).set
      rw [View.set_slice_whole, oRect_set]
      exact fun h => Finset.disjoint_left.mp (oSet_disjoint hkj) hi h

theorem OUT_of_all (c : Dev nD) (f : (cc0_stg2_0 : Ref sig .tc).ty.Contents (Elt F)) (S : Finset (Fin 4)) (hS : ∀ j, j ∈ S)
    (hf : ∀ k ∈ S, ∀ i ∈ oSet k, f i = OUT m ρ c i) : f = OUT m ρ c := by
  funext (i : S256x16384.Idx)
  exact hf ⟨(i 1).val / 4096, Nat.div_lt_of_lt_mul (i 1).isLt⟩ (hS _) i (mem_oSet.mpr rfl)

theorem all_slots (c : Dev nD) (j : Fin 4) : j ∈ insert (sl c 3) (insert (sl c 2) (insert (sl c 1) (insert (zc c) (∅ : Finset (Fin 4))))) := by
  revert c j; decide +kernel

end Cert.KernelIdealProof

end

end
-- ==== Proof.KernelIdeal.Schedule.lean ====
/-
# The protocol of the kernel

Every semaphore is used for one round. With `z` a device's place in its group:

* the barrier: one unit from each of the three peers; with its unit a peer hands over its partial-sum slot `z` (the one
  this device's partial sums will land in), and the next device of the group also its three block slots other than its own;
* `pr j` (`j ≠ z`): the credit of one slot of partial sums, from the group's `j`-th device's copy; the landing hands over
  partial-sum slot `j`, full;
* `ps k`: the same credit from the device's own `k`-th copy of its partial sums; it hands back a share of its own slot;
* `cr h`: the credit of one block, from the previous device's `h`-th copy; the landing hands over the block slot `h + 1`
  places before its own, full;
* `cs h`: the same credit from the device's own `h`-th copy; it hands back half of the slot `h` places before its own.

Levels: the barrier 1, the partial sums 2, the blocks 3, 4, 5 in the order they travel; what a device waits on is always
below everything it still owes.
-/
module

public import proofs.«01_k».proof.Proof.KernelIdeal.Slots

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the protocol's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Owning a slot -/

/-- Slot `j` of device `c`'s block buffer (of its partial-sum buffer), at a share. -/
def sPts (c : Dev nD) (j : Fin 4) (q : PosShare TreeShare) (f : Buf (Elt F) ((c : Thread nD τ).loc cc0_scratch0)) : sProp 𝕄 :=
  ((c : Thread nD τ).loc cc0_scratch0) ↦[sSet j]{q} f
def pPts (c : Dev nD) (j : Fin 4) (q : PosShare TreeShare) (f : Buf (Elt F) ((c : Thread nD τ).loc cc0_scratch1)) : sProp 𝕄 :=
  ((c : Thread nD τ).loc cc0_scratch1) ↦[pSet j]{q} f

instance sPts_storable (c : Dev nD) (j q f) : BI.Storable (upEmb : UEmb _ 𝕄) (sPts (F := F) c j q f) := by unfold sPts; infer_instance
instance pPts_storable (c : Dev nD) (j q f) : BI.Storable (upEmb : UEmb _ 𝕄) (pPts (F := F) c j q f) := by unfold pPts; infer_instance

/-- As the copies name it. -/
theorem sPts_eq (c : Dev nD) (j : Fin 4) (q : PosShare TreeShare) (inb) (f : Buf (Elt F) ((c : Thread nD τ).loc cc0_scratch0)) :
    sPts c j q f = ((sSlot (sOff j) inb).view.loc (c : Thread nD τ) ↦[(sSlot (sOff j) inb).view.set]{q} f : sProp 𝕄) :=
  congrArg (fun S : Finset S4x256x4096.Idx => (((c : Thread nD τ).loc cc0_scratch0) ↦[S]{q} f : sProp 𝕄)) (sSlot_set j inb).symm
theorem pPts_eq (c : Dev nD) (j : Fin 4) (q : PosShare TreeShare) (inb) (f : Buf (Elt F) ((c : Thread nD τ).loc cc0_scratch1)) :
    pPts c j q f = ((pSlot (sOff j) inb).view.loc (c : Thread nD τ) ↦[(pSlot (sOff j) inb).view.set]{q} f : sProp 𝕄) :=
  congrArg (fun S : Finset S4x256x1.Idx => (((c : Thread nD τ).loc cc0_scratch1) ↦[S]{q} f : sProp 𝕄)) (pSlot_set j inb).symm

theorem sPts_congr (c : Dev nD) (j : Fin 4) (q) {f g : Buf (Elt F) ((c : Thread nD τ).loc cc0_scratch0)}
    (h : ∀ i ∈ sSet j, f i = g i) : (sPts c j q f : sProp 𝕄) = sPts c j q g := by unfold sPts; exact pointsTo_congr h
theorem pPts_congr (c : Dev nD) (j : Fin 4) (q) {f g : Buf (Elt F) ((c : Thread nD τ).loc cc0_scratch1)}
    (h : ∀ i ∈ pSet j, f i = g i) : (pPts c j q f : sProp 𝕄) = pPts c j q g := by unfold pPts; exact pointsTo_congr h

/-! ## The payloads -/

/-- The share of its own partial-sum slot the `k`-th copy travels with. -/
def psShare : Fin 3 → PosShare TreeShare
  | 0 => fullShare.left
  | 1 => fullShare.right.left
  | 2 => fullShare.right.right

/-- What device `d`'s barrier is handed with the unit of duty `k`, by the device `k + 1` places before it. -/
def barPay (d : Dev nD) : Fin 3 → sProp 𝕄
  | 0 => iprop(∃ f, pPts (peer d 3) (zc d) fullShare f)
  | 1 => iprop(∃ f, pPts (peer d 2) (zc d) fullShare f)
  | 2 => iprop((∃ f, pPts (peer d 1) (zc d) fullShare f) ∗ (∃ f, sPts (nxt d) (sl d 0) fullShare f)
      ∗ (∃ f, sPts (nxt d) (sl d 1) fullShare f) ∗ (∃ f, sPts (nxt d) (sl d 2) fullShare f))

/-- What the completion of duty `d` on device `c`'s semaphore `k` hands over. -/
def cpay (c : Dev nD) : CK → Fin 3 → sProp 𝕄
  | .bar, d => barPay c d
  | .cs h, _ => sPts c (sl c h.castSucc) fullShare.left (SL m ρ c)
  | .cr h, _ => sPts c (sl c h.succ) fullShare (SL m ρ c)
  | .ps k, _ => pPts c (zc c) (psShare k) (PS m ρ c)
  | .pr j, _ => pPts c j fullShare (PS m ρ c)

instance barPay_storable (d : Dev nD) (k : Fin 3) : BI.Storable (upEmb : UEmb _ 𝕄) (barPay (F := F) d k) := by
  rcases k with ⟨_ | _ | _ | k, hk⟩
  · show BI.Storable _ iprop(∃ f, pPts (peer d 3) (zc d) fullShare f); infer_instance
  · show BI.Storable _ iprop(∃ f, pPts (peer d 2) (zc d) fullShare f); infer_instance
  · show BI.Storable _ iprop((∃ f, pPts (peer d 1) (zc d) fullShare f) ∗ (∃ f, sPts (nxt d) (sl d 0) fullShare f)
      ∗ (∃ f, sPts (nxt d) (sl d 1) fullShare f) ∗ (∃ f, sPts (nxt d) (sl d 2) fullShare f)); infer_instance
  · exact absurd hk (by omega)
instance cpay_storable (c : Dev nD) (k : CK) (d : Fin 3) : BI.Storable (upEmb : UEmb _ 𝕄) (cpay (F := F) m ρ c k d) := by
  rcases k with _ | h | h | h | h <;> (unfold cpay; infer_instance)

/-! ## The schedule -/

theorem sOff_inbS (j : Fin 4) : ∀ a, sOff j a + S1x256x4096.size a ≤ S4x256x4096.size a := by revert j; decide +kernel
theorem sOff_inbP (j : Fin 4) : ∀ a, sOff j a + S1x256x1.size a ≤ S4x256x1.size a := by revert j; decide +kernel

/-- The credit of one block, of one slot of partial sums. -/
def NC : ℕ := (sSlot (sOff 0) (sOff_inbS 0)).view.dmaCredit
def NP : ℕ := (pSlot (sOff 0) (sOff_inbP 0)).view.dmaCredit
theorem NC_pos : 0 < NC := by
  unfold NC; exact View.dmaCredit_pos _ (Shape.numel_pos (by decide))
theorem NP_pos : 0 < NP := by
  unfold NP; exact View.dmaCredit_pos _ (Shape.numel_pos (by decide))

def camount : CK → ℕ
  | .bar => 1
  | .cs _ => NC
  | .cr _ => NC
  | .ps _ => NP
  | .pr _ => NP

theorem camount_pos (k : CK) : 0 < camount k := by
  rcases k with _ | h | h | h | h
  · exact Nat.one_pos
  · exact NC_pos
  · exact NC_pos
  · exact NP_pos
  · exact NP_pos

def cduties (c : Dev nD) : CK → Finset (Fin 3)
  | .bar => Finset.univ
  | .pr j => if j = zc c then ∅ else {0}
  | _ => {0}

/-- One round, round 0. -/
def ringRd : Rounds.Schedule (GSem nD τ sig) (Fin 3) 𝕄 where
  duties g r := if r = 0 ∧ g.1.2 = .tc then (match ixOf g.2 with | some k => cduties g.1.1 k | none => ∅) else ∅
  unitless _ := False
  amount g _ _ := match ixOf g.2 with | some k => camount k | none => 1
  payload g _ d := match ixOf g.2 with | some k => cpay m ρ g.1.1 k d | none => iprop(emp)
  amount_pos g _ _ _ := by
    cases ixOf g.2 with
    | none => exact Nat.one_pos
    | some k => exact camount_pos k

instance ringRd_payload_storable (g : GSem nD τ sig) (r : ℕ) (d : Fin 3) :
    BI.Storable (upEmb : UEmb _ 𝕄) ((ringRd (F := F) m ρ).payload g r d) := by
  show BI.Storable upEmb (match ixOf g.2 with | some k => cpay m ρ g.1.1 k d | none => iprop(emp))
  cases ixOf g.2 with
  | none => infer_instance
  | some k => infer_instance

theorem duties_cell (c : Dev nD) (k : CK) : (ringRd (F := F) m ρ).duties (kcell (c, k)) 0 = cduties c k := by
  show (if 0 = 0 ∧ (c : Thread nD τ).2 = .tc then (match ixOf (csem k) with | some k => cduties c k | none => ∅) else ∅) = _
  rw [if_pos ⟨rfl, rfl⟩, ixOf_csem]
theorem duties_later (g : GSem nD τ sig) : ∀ r, 1 ≤ r → (ringRd (F := F) m ρ).duties g r = ∅ :=
  fun r hr => by dsimp only [ringRd]; rw [if_neg fun h => by omega]
theorem duties_own (c : Dev nD) : ∀ r, 0 ≤ r → (ringRd (F := F) m ρ).duties (kcell (c, .pr (zc c))) r = ∅ := by
  intro r _
  rcases Nat.eq_zero_or_pos r with rfl | hr
  · rw [duties_cell]; exact if_pos rfl
  · exact duties_later m ρ _ r hr
theorem amount_cell (c : Dev nD) (k : CK) (d : Fin 3) : (ringRd (F := F) m ρ).amount (kcell (c, k)) 0 d = camount k := by
  show (match ixOf (csem k) with | some k => camount k | none => 1) = _
  rw [ixOf_csem]
theorem payload_cell (c : Dev nD) (k : CK) (d : Fin 3) : (ringRd (F := F) m ρ).payload (kcell (c, k)) 0 d = cpay m ρ c k d := by
  show (match ixOf (csem k) with | some k => cpay m ρ c k d | none => iprop(emp)) = _
  rw [ixOf_csem]

theorem expect_bar (c : Dev nD) : (ringRd (F := F) m ρ).expect (kcell (c, .bar)) 0 = 3 := by
  unfold Schedule.expect Schedule.amountOf
  rw [duties_cell, Finset.sum_congr rfl fun d _ => amount_cell m ρ c .bar d]
  simp [cduties, camount]
theorem expect_one (c : Dev nD) (k : CK) (h : cduties c k = {0}) : (ringRd (F := F) m ρ).expect (kcell (c, k)) 0 = camount k := by
  unfold Schedule.expect Schedule.amountOf; rw [duties_cell, h, Finset.sum_singleton, amount_cell]

/-- What a wait for a whole round hands over. -/
theorem rest_bar (c : Dev nD) :
    bigSep ((ringRd (F := F) m ρ).duties (kcell (c, .bar)) 0 \ ∅) (fun d => (ringRd (F := F) m ρ).payload (kcell (c, .bar)) 0 d)
      = iprop(barPay c 0 ∗ barPay c 1 ∗ barPay c 2) := by
  rw [Finset.sdiff_empty, duties_cell, show cduties c .bar = Finset.univ from rfl,
    bigSep_univ_eq_bigSepL [0, 1, 2] (by decide) (by decide), bigSepL_cons_cons, bigSepL_cons_cons, bigSepL_singleton,
    payload_cell, payload_cell, payload_cell]
  rfl
theorem rest_one (c : Dev nD) (k : CK) (h : cduties c k = {0}) :
    bigSep ((ringRd (F := F) m ρ).duties (kcell (c, k)) 0 \ ∅) (fun d => (ringRd (F := F) m ρ).payload (kcell (c, k)) 0 d)
      = cpay m ρ c k 0 := by
  rw [Finset.sdiff_empty, duties_cell, h, bigSep_singleton, payload_cell]

/-! ## What a device owes; the levels -/

/-- What device `c` pays, in the order it pays it. -/
def payL (c : Dev nD) : List (Dev nD × CK) :=
  [(peer c 1, .bar), (peer c 2, .bar), (peer c 3, .bar),
   (peer c 1, .pr (zc c)), (peer c 2, .pr (zc c)), (peer c 3, .pr (zc c)),
   (nxt c, .cr 0), (nxt c, .cr 1), (nxt c, .cr 2)]

/-- What is owed when the payments of a list remain. -/
def oweL : List (Dev nD × CK) → CellTallies nD τ sig Unit
  | [] => 0
  | x :: l => oweL l + tallyAt (kcell x) () (camount x.2)

def O₀ (c : Dev nD) : CellTallies nD τ sig Unit := oweL (payL c)

def clev : CK → ℕ
  | .bar => 1
  | .pr _ => 2
  | .cr h => 3 + h.val
  | _ => 0

def L (g : GSem nD τ sig) : Finset Unit := if g.1.2 = .tc then {()} else ∅
def lv (g : GSem nD τ sig) (_ : Unit) : ℕ := match ixOf g.2 with | some k => clev k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (x : Dev nD × CK) : lv (kcell x) () = clev x.2 := by
  show (match ixOf (csem x.2) with | some k => clev k | none => 0) = _
  rw [ixOf_csem]

theorem oweL_pos {l : List (Dev nD × CK)} {g : GSem nD τ sig} {u : Unit} (h : 0 < oweL l g u) : ∃ x ∈ l, g = kcell x := by
  induction l with
  | nil => exact absurd h (Nat.lt_irrefl 0)
  | cons x l ih =>
    unfold oweL at h
    rw [Pi.add_apply, Finsupp.add_apply, tallyAt_apply] at h
    by_cases hx : g = kcell x ∧ u = ()
    · exact ⟨x, List.mem_cons_self, hx.1⟩
    · rw [if_neg hx, Nat.add_zero] at h
      obtain ⟨y, hy, e⟩ := ih h
      exact ⟨y, List.mem_cons_of_mem _ hy, e⟩

/-- A device may wait on a semaphore whose level is below every payment it still owes. -/
theorem mayWait (c : Dev nD) (sm : SemLoc sig) (l : List (Dev nD × CK)) (b : ℕ) (hb : lv ((c : Thread nD τ), sm) () ≤ b)
    (hl : ∀ x ∈ l, b < clev x.2) : (levAts L lv : sProp 𝕄) ⊢ MayWait (c : Thread nD τ) sm () (oweL l) :=
  MayOwe.of_cut (L := L) (lev := lv) b (fun p hp => by rw [Finset.mem_singleton.mp hp, L_tc]; exact Finset.mem_singleton_self _)
    (fun g u hg => by obtain ⟨x, -, rfl⟩ := oweL_pos hg; exact Finset.mem_singleton_self _)
    (fun p hp => by rw [Finset.mem_singleton.mp hp]; exact hb)
    (fun g u hg => by obtain ⟨x, hx, rfl⟩ := oweL_pos hg; rw [lv_cell]; exact hl x hx)

end Cert.KernelIdealProof

end

end
-- ==== Proof.KernelIdeal.Steps.lean ====
/-
# The protocol's steps

One lemma per effect of the kernel's body: a signal, a copy of a slot, a wait, a load or store of a slot, each stated
with what it takes and what it leaves in terms of slots and of the list of payments still owed.
-/
module

public import proofs.«01_k».proof.Proof.KernelIdeal.Schedule

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What everyone knows -/

/-- Every semaphore's invariant, under the names `K` they were allocated at, and that each has reached round 0. -/
def records (K : Dev nD × CK → ℕ) : sProp 𝕄 :=
  iprop((bigSep Finset.univ fun x : Dev nD × CK => cellInv ER (ringRd m ρ) (K x) (kcell x))
    ∗ bigSep Finset.univ fun x : Dev nD × CK => reached ER (kcell x) 0)

instance records_persistent (K : Dev nD × CK → ℕ) : BI.Persistent (records m ρ K) := by unfold records; infer_instance

theorem inv_at (K : Dev nD × CK → ℕ) (x : Dev nD × CK) :
    (bigSep Finset.univ fun x : Dev nD × CK => (cellInv ER (ringRd m ρ) (K x) (kcell x) : sProp 𝕄)) ⊢ cellInv ER (ringRd m ρ) (K x) (kcell x) :=
  bigSep_elim (Finset.mem_univ x)
theorem reached_at (x : Dev nD × CK) :
    (bigSep Finset.univ fun x : Dev nD × CK => (reached ER (kcell x) 0 : sProp 𝕄)) ⊢ reached ER (kcell x) 0 :=
  bigSep_elim (Finset.mem_univ x)

theorem inv_of (K : Dev nD × CK → ℕ) (x : Dev nD × CK) : records m ρ K ⊢ cellInv ER (ringRd m ρ) (K x) (kcell x) := by
  unfold records
  iintro ⟨H, -⟩
  iapply (inv_at m ρ K x); iexact H
theorem reached_of (K : Dev nD × CK → ℕ) (x : Dev nD × CK) : records m ρ K ⊢ reached ER (kcell x) 0 := by
  unfold records
  iintro ⟨-, H⟩
  iapply (reached_at (F := F) x); iexact H

/-- The payments of the list remain owed. -/
def owesX (c : Dev nD) (l : List (Dev nD × CK)) : sProp 𝕄 := iprop(∃ W, owes (c : Thread nD τ) (oweL l) W)

variable (K : Dev nD × CK → ℕ)

/-! ## Signal and waits -/

/-- A signal of `d`'s barrier, paying its duty `k`. -/
theorem step_signal (c n d : Dev nD) (hn : n = d) (k : Fin 3) (l : List (Dev nD × CK)) {k' : ℕ} (hk : k' = 1)
    {α : Type} {Q : α → sProp 𝕄} {kk : PUnit → Prog (TpuEff nD τ sig (Elt F) Λ₀ .tc) α} :
    iprop(records m ρ K ∗ owesX c ((d, .bar) :: l) ∗ dutyTok ER (kcell (d, .bar)) 0 k ∗ barPay d k)
      ⊢ iprop((owesX c l -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS k') kk) Q) := by
  subst hn hk
  unfold owesX
  iintro ⟨#HR, ⟨%W, HO⟩, Ht, Hp⟩ Hk
  iapply (Rounds.wp_signal 𝒱₀ ER (ringRd m ρ) (c : Thread nD τ) none (dst := (n : Thread nD τ)) (κ := K (n, .bar))
      (d := k) (by rw [show (((n : Thread nD τ), SemLoc.reg barS) : GSem nD τ sig) = kcell (n, .bar) from rfl, duties_cell]; exact Finset.mem_univ _)
      (amount_cell m ρ n .bar k) () (oweL l) rfl (W := W)) $$ [HO Ht Hp]
  · isplitr; · iapply (inv_of m ρ K (n, .bar)); iexact HR
    isplitl [HO]; · iexact HO
    isplitl [Ht]; · iexact Ht
    isplitl [Hp]
    · rw [show (((n : Thread nD τ), SemLoc.reg barS) : GSem nD τ sig) = kcell (n, .bar) from rfl, payload_cell]; unfold cpay; iexact Hp
    iapply (reached_of m ρ K (n, .bar)); iexact HR
  iintro HO
  iapply Hk
  iexists W; iexact HO

/-- The wait for all three units of its own barrier. -/
theorem step_wait_bar (c : Dev nD) (l : List (Dev nD × CK)) (hl : ∀ x ∈ l, 1 < clev x.2) {k' : ℕ} (hk : k' = 3)
    {α : Type} {Q : α → sProp 𝕄} {kk : PUnit → Prog (TpuEff nD τ sig (Elt F) Λ₀ .tc) α} :
    iprop(records m ρ K ∗ levAts L lv ∗ cred (tallyAt (kcell (c, .bar)) () 3) ∗ owesX c l ∗ atPos ER (kcell (c, .bar)) 0 ∅ 0)
      ⊢ iprop(((owesX c l ∗ atPos ER (kcell (c, .bar)) 1 ∅ 0 ∗ barPay c 0 ∗ barPay c 1 ∗ barPay c 2)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS k') kk) Q) := by
  subst hk
  unfold owesX
  iintro ⟨#HR, #Hlev, Hc, ⟨%W, HO⟩, Hat⟩ Hk
  have hw : ∀ Kp : PUnit → sProp 𝕄, wpE (defs₀ (F := F)) 𝒱₀ (c : Thread nD τ) none Set.univ (.semWait barS 3) Kp
      = waitSpec (c : Thread nD τ) Set.univ (csem .bar) 3 Kp := fun Kp => wpE_semWait_eq 𝒱₀ (c : Thread nD τ) none Set.univ Kp
  iapply (Rounds.wp_wait_rest_token 𝒱₀ ER (ringRd m ρ) (c : Thread nD τ) none (κ := K (c, .bar)) (sm := csem .bar)
      hw (Set.mem_univ _) () (O := oweL l) (W := W) (R := 0) (m := 0) (T := ∅)
      (by rw [Nat.zero_add]; exact (expect_bar m ρ c).symm)) $$ [Hc HO Hat]
  · isplitr; · iapply (inv_of m ρ K (c, .bar)); iexact HR
    isplitl [Hc]; · iexact Hc
    isplitl [HO]; · iexact HO
    isplitr; · iapply (mayWait c (csem .bar) l 1 (le_of_eq (lv_cell (c, .bar))) hl); iexact Hlev
    iexact Hat
  iintro ⟨HO, Hat, -, Hpay⟩
  ihave Hp := (Entails.of_eq (rest_bar m ρ c)) $$ Hpay
  iapply Hk
  isplitl [HO]; · iexists (insert (csem .bar, ()) W); iexact HO
  isplitl [Hat]; · iexact Hat
  iexact Hp

/-- The wait for a copy's whole credit on one of its own DMA semaphores. -/
theorem step_wait_dma (c : Dev nD) (k : CK) (hd : cduties c k = {0}) (l : List (Dev nD × CK)) (hl : ∀ x ∈ l, clev k < clev x.2)
    {sem : DmaSem sig} (hs : SemLoc.dma sem = csem k)
    {sp sp' : Space} {s s' : Shape} {e e' : EltTy} {src : Memref sig .tc sp' s' e'} {dst : Memref sig .tc sp s e}
    {hsrc : src.view.WordExact} {hdst : dst.view.WordExact} (hN : dst.view.dmaCredit = camount k)
    {α : Type} {Q : α → sProp 𝕄} {kk : PUnit → Prog (TpuEff nD τ sig (Elt F) Λ₀ .tc) α} :
    iprop(records m ρ K ∗ levAts L lv ∗ cred (tallyAt (kcell (c, k)) () (camount k)) ∗ owesX c l ∗ atPos ER (kcell (c, k)) 0 ∅ 0)
      ⊢ iprop(((owesX c l ∗ atPos ER (kcell (c, k)) 1 ∅ 0 ∗ cpay m ρ c k 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) := by
  unfold owesX
  iintro ⟨#HR, #Hlev, Hc, ⟨%W, HO⟩, Hat⟩ Hk
  have e : kcell (c, k) = ((c : Thread nD τ), SemLoc.dma sem) := by rw [hs]
  have hw : ∀ Kp : PUnit → sProp 𝕄, wpE (defs₀ (F := F)) 𝒱₀ (c : Thread nD τ) none Set.univ (.waitDma2 sem src dst hsrc hdst) Kp
      = waitSpec (c : Thread nD τ) Set.univ (csem k) (camount k) Kp := fun Kp => by
    rw [← hs, ← hN]; exact wpE_waitDma2_eq 𝒱₀ (c : Thread nD τ) none Set.univ Kp
  iapply (Rounds.wp_wait_rest_token 𝒱₀ ER (ringRd m ρ) (c : Thread nD τ) none (κ := K (c, k)) (sm := csem k)
      hw (Set.mem_univ _) () (O := oweL l) (W := W) (R := 0) (m := 0) (T := ∅)
      (by rw [Nat.zero_add]; exact (expect_one m ρ c k hd).symm)) $$ [Hc HO Hat]
  · isplitr; · iapply (inv_of m ρ K (c, k)); iexact HR
    isplitl [Hc]; · iexact Hc
    isplitl [HO]; · iexact HO
    isplitr; · iapply (mayWait c (csem k) l (clev k) (le_of_eq (lv_cell (c, k))) hl); iexact Hlev
    iexact Hat
  iintro ⟨HO, Hat, -, Hpay⟩
  ihave Hp := (Entails.of_eq (rest_one m ρ c k hd)) $$ Hpay
  iapply Hk
  isplitl [HO]; · iexists (insert (csem k, ()) W); iexact HO
  isplitl [Hat]; · iexact Hat
  iexact Hp

/-! ## Copies -/

theorem NC_eq (off inb) : (sSlot off inb).view.dmaCredit = NC := by unfold NC; rfl
theorem NP_eq (off inb) : (pSlot off inb).view.dmaCredit = NP := by unfold NP; rfl

theorem sl_succ (c : Dev nD) (h : Fin 3) : sl (nxt c) h.succ = sl c h.castSucc := by revert c h; decide +kernel

/-- The copy of its own partial sums to the group's `j`-th device. -/
theorem step_send_p (c n : Dev nD) (j : Fin 4) (hn : n = pa c j) (hj : zc c ≠ j) (k : Fin 3) (l : List (Dev nD × CK))
    {off : Fin 3 → ℕ} (hoff : off = sOff (zc c)) {inb inb' : ∀ a, off a + S1x256x1.size a ≤ S4x256x1.size a}
    {sS sR : DmaSem sig} (hS : SemLoc.dma sS = csem (.ps k)) (hR : SemLoc.dma sR = csem (.pr (zc c)))
    {hsc : (pSlot off inb' : Memref sig (Dev.tc n : Thread nD τ).2.kind .vmem S256x1 .f32).view.ref.isScScratch = false}
    {hsrc : (pSlot off inb).view.WordExact} {hdst : (pSlot off inb').view.WordExact}
    {hsem : DmaTarget.Typed .vmem (.dma sR) (.remote (Dev.tc n : Thread nD τ) (pSlot off inb') (.dma sS) hsc)}
    (fd : Buf (Elt F) ((pa c j : Thread nD τ).loc cc0_scratch1))
    {α : Type} {Q : α → sProp 𝕄} {kk : PUnit → Prog (TpuEff nD τ sig (Elt F) Λ₀ .tc) α} :
    iprop(records m ρ K ∗ pPts c (zc c) (psShare k) (PS m ρ c) ∗ pPts (pa c j) (zc c) fullShare fd
        ∗ owesX c ((pa c j, .pr (zc c)) :: l)
        ∗ dutyTok ER (kcell (c, .ps k)) 0 0 ∗ dutyTok ER (kcell (pa c j, .pr (zc c))) 0 0)
      ⊢ iprop(((cred (tallyAt (kcell (c, .ps k)) () (camount (.ps k))) ∗ owesX c l)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (pSlot off inb) (.remote (Dev.tc n : Thread nD τ) (pSlot off inb') (.dma sS) hsc) (.dma sR) hsrc hdst hsem) kk) Q) := by
  subst hn hoff
  unfold owesX
  iintro ⟨#HR, Hsrc, Hdst, ⟨%W, HO⟩, Ht1, Ht2⟩ Hk
  have e1 : (((c : Thread nD τ), SemLoc.dma sS) : GSem nD τ sig) = kcell (c, .ps k) := by rw [hS]
  have e2 : (((pa c j : Thread nD τ), SemLoc.dma sR) : GSem nD τ sig) = kcell (pa c j, .pr (zc c)) := by rw [hR]
  have hdj : cduties (pa c j) (.pr (zc c)) = {0} := if_neg (by rw [zc_pa]; exact hj)
  ihave Hsrc' := (Entails.of_eq (pPts_eq c (zc c) (psShare k) inb (PS m ρ c))) $$ Hsrc
  ihave Hdst' := (Entails.of_eq (pPts_eq (pa c j) (zc c) fullShare inb' fd)) $$ Hdst
  iapply (Rounds.wp_send_pointsTo 𝒱₀ ER (ringRd m ρ) (c : Thread nD τ) none (κ₁ := K (c, .ps k)) (κ₂ := K (pa c j, .pr (zc c)))
    (c' := (pa c j : Thread nD τ)) (src := pSlot (sOff (zc c)) inb) (dst := pSlot (sOff (zc c)) inb') (sS := .dma sS) (sem := .dma sR)
    (hsc := hsc) (hsrc := hsrc) (hdst := hdst) (hsem := hsem)
    (r₁ := 0) (r₂ := 0) (d₁ := 0) (d₂ := 0) (fd := fd) (fs := PS m ρ c) (q := psShare k)
    (by rw [e1, duties_cell]; exact Finset.mem_singleton_self _) (by rw [e2, duties_cell, hdj]; exact Finset.mem_singleton_self _)
    () () NP (NP_eq _ _) ((congrArg (fun g => (ringRd m ρ).amount g 0 0) e1).trans (amount_cell m ρ _ _ 0)) ((congrArg (fun g => (ringRd m ρ).amount g 0 0) e2).trans (amount_cell m ρ _ _ 0)) (oweL l) (congrArg (fun g => oweL l + tallyAt g () _) e2.symm) (W := W)
    (by rw [e1, payload_cell]; exact Entails.of_eq (pPts_eq c (zc c) (psShare k) inb (PS m ρ c)).symm)
    (by
      rw [e2, payload_cell]
      refine (Entails.of_eq (pPts_eq (pa c j) (zc c) fullShare inb' _).symm).trans ?_
      show pPts (pa c j) (zc c) fullShare _ ⊢ pPts (pa c j) (zc c) fullShare (PS m ρ (pa c j))
      rw [PS_pa]
      exact Entails.of_eq (pPts_congr (pa c j) (zc c) fullShare (land_p (zc c) inb fd (PS m ρ c))))) $$ [Hsrc' Hdst' HO Ht1 Ht2]
  · isplitr; · rw [e1]; iapply (inv_of m ρ K (c, .ps k)); iexact HR
    isplitr; · rw [e2]; iapply (inv_of m ρ K (pa c j, .pr (zc c))); iexact HR
    isplitl [Hsrc']; · iexact Hsrc'
    isplitl [Hdst']; · iexact Hdst'
    isplitl [HO]; · iexact HO
    isplitl [Ht1]; · rw [e1]; iexact Ht1
    isplitr; · rw [e1]; iapply (reached_of m ρ K (c, .ps k)); iexact HR
    isplitl [Ht2]; · rw [e2]; iexact Ht2
    rw [e2]; iapply (reached_of m ρ K (pa c j, .pr (zc c))); iexact HR
  rw [e1]
  iintro ⟨Hc, HO⟩
  iapply Hk
  isplitl [Hc]; · iexact Hc
  iexists W; iexact HO

/-- The `h`-th copy of a block slot to the next device of the group. -/
theorem step_send_s (c n : Dev nD) (hn : n = nxt c) (h : Fin 3) (j : Fin 4) (hj : j = h.castSucc) (l : List (Dev nD × CK))
    {off : Fin 3 → ℕ} (hoff : off = sOff (sl c j)) {inb inb' : ∀ a, off a + S1x256x4096.size a ≤ S4x256x4096.size a}
    {sS sR : DmaSem sig} (hS : SemLoc.dma sS = csem (.cs h)) (hR : SemLoc.dma sR = csem (.cr h))
    {hsc : (sSlot off inb' : Memref sig (Dev.tc n : Thread nD τ).2.kind .vmem S256x4096 .bf16).view.ref.isScScratch = false}
    {hsrc : (sSlot off inb).view.WordExact} {hdst : (sSlot off inb').view.WordExact}
    {hsem : DmaTarget.Typed .vmem (.dma sR) (.remote (Dev.tc n : Thread nD τ) (sSlot off inb') (.dma sS) hsc)}
    (fd : Buf (Elt F) ((nxt c : Thread nD τ).loc cc0_scratch0))
    {α : Type} {Q : α → sProp 𝕄} {kk : PUnit → Prog (TpuEff nD τ sig (Elt F) Λ₀ .tc) α} :
    iprop(records m ρ K ∗ sPts c (sl c j) fullShare.left (SL m ρ c) ∗ sPts (nxt c) (sl c j) fullShare fd
        ∗ owesX c ((nxt c, .cr h) :: l)
        ∗ dutyTok ER (kcell (c, .cs h)) 0 0 ∗ dutyTok ER (kcell (nxt c, .cr h)) 0 0)
      ⊢ iprop(((cred (tallyAt (kcell (c, .cs h)) () (camount (.cs h))) ∗ owesX c l)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sSlot off inb) (.remote (Dev.tc n : Thread nD τ) (sSlot off inb') (.dma sS) hsc) (.dma sR) hsrc hdst hsem) kk) Q) := by
  subst hn hoff hj
  unfold owesX
  iintro ⟨#HR, Hsrc, Hdst, ⟨%W, HO⟩, Ht1, Ht2⟩ Hk
  have e1 : (((c : Thread nD τ), SemLoc.dma sS) : GSem nD τ sig) = kcell (c, .cs h) := by rw [hS]
  have e2 : (((nxt c : Thread nD τ), SemLoc.dma sR) : GSem nD τ sig) = kcell (nxt c, .cr h) := by rw [hR]
  ihave Hsrc' := (Entails.of_eq (sPts_eq c (sl c h.castSucc) fullShare.left inb (SL m ρ c))) $$ Hsrc
  ihave Hdst' := (Entails.of_eq (sPts_eq (nxt c) (sl c h.castSucc) fullShare inb' fd)) $$ Hdst
  iapply (Rounds.wp_send_pointsTo 𝒱₀ ER (ringRd m ρ) (c : Thread nD τ) none (κ₁ := K (c, .cs h)) (κ₂ := K (nxt c, .cr h))
    (c' := (nxt c : Thread nD τ)) (src := sSlot (sOff (sl c h.castSucc)) inb) (dst := sSlot (sOff (sl c h.castSucc)) inb') (sS := .dma sS) (sem := .dma sR)
    (hsc := hsc) (hsrc := hsrc) (hdst := hdst) (hsem := hsem)
    (r₁ := 0) (r₂ := 0) (d₁ := 0) (d₂ := 0) (fd := fd) (fs := SL m ρ c) (q := fullShare.left)
    (by rw [e1, duties_cell]; exact Finset.mem_singleton_self _) (by rw [e2, duties_cell]; exact Finset.mem_singleton_self _)
    () () NC (NC_eq _ _) ((congrArg (fun g => (ringRd m ρ).amount g 0 0) e1).trans (amount_cell m ρ _ _ 0)) ((congrArg (fun g => (ringRd m ρ).amount g 0 0) e2).trans (amount_cell m ρ _ _ 0)) (oweL l) (congrArg (fun g => oweL l + tallyAt g () _) e2.symm) (W := W)
    (by rw [e1, payload_cell]; exact Entails.of_eq (sPts_eq c (sl c h.castSucc) fullShare.left inb (SL m ρ c)).symm)
    (by
      rw [e2, payload_cell]
      refine (Entails.of_eq (sPts_eq (nxt c) (sl c h.castSucc) fullShare inb' _).symm).trans ?_
      show sPts (nxt c) (sl c h.castSucc) fullShare _ ⊢ sPts (nxt c) (sl (nxt c) h.succ) fullShare (SL m ρ (nxt c))
      rw [sl_succ, show SL m ρ (nxt c) = SL m ρ c from SL_pa m ρ c _]
      exact Entails.of_eq (sPts_congr (nxt c) (sl c h.castSucc) fullShare (land_s (sl c h.castSucc) inb fd (SL m ρ c))))) $$ [Hsrc' Hdst' HO Ht1 Ht2]
  · isplitr; · rw [e1]; iapply (inv_of m ρ K (c, .cs h)); iexact HR
    isplitr; · rw [e2]; iapply (inv_of m ρ K (nxt c, .cr h)); iexact HR
    isplitl [Hsrc']; · iexact Hsrc'
    isplitl [Hdst']; · iexact Hdst'
    isplitl [HO]; · iexact HO
    isplitl [Ht1]; · rw [e1]; iexact Ht1
    isplitr; · rw [e1]; iapply (reached_of m ρ K (c, .cs h)); iexact HR
    isplitl [Ht2]; · rw [e2]; iexact Ht2
    rw [e2]; iapply (reached_of m ρ K (nxt c, .cr h)); iexact HR
  rw [e1]
  iintro ⟨Hc, HO⟩
  iapply Hk
  isplitl [Hc]; · iexact Hc
  iexists W; iexact HO

/-! ## Loads and stores of a slot -/

theorem s_setOn (j : Fin 4) (inb) : sM.view.setOn (sRect (sOff j) inb).set ⊆ sSet j := by
  intro i hi
  obtain ⟨y, hy, rfl⟩ := Finset.mem_map.mp hi
  rw [← sRect_set j inb]; exact hy
theorem p_setOn (j : Fin 4) (inb) : pM.view.setOn (pRect (sOff j) inb).set ⊆ pSet j := by
  intro i hi
  obtain ⟨y, hy, rfl⟩ := Finset.mem_map.mp hi
  rw [← pRect_set j inb]; exact hy
theorem s_access (j : Fin 4) (inb) : (sM.access (sRect (sOff j) inb)).setOn Finset.univ ⊆ sSet j := by
  rw [View.setOn_univ]
  exact subset_of_eq ((View.set_slice_whole _ _).trans (sRect_set j inb))
theorem p_access (j : Fin 4) (inb) : (pM.access (pRect (sOff j) inb)).setOn Finset.univ ⊆ pSet j := by
  rw [View.setOn_univ]
  exact subset_of_eq ((View.set_slice_whole _ _).trans (pRect_set j inb))

/-- A load of slot `j`, at any share of it. -/
theorem step_load_s (c : Dev nD) (j : Fin 4) {off} (hoff : off = sOff j) {inb} {hl : sM.view.LoadsAt (sRect off inb).toLoadRect}
    (q : PosShare TreeShare) (f : Buf (Elt F) ((c : Thread nD τ).loc cc0_scratch0))
    {α : Type} {Q : α → sProp 𝕄} {kk : (S1x256x4096.Idx → Elt F .bf16) → Prog (TpuEff nD τ sig (Elt F) Λ₀ .tc) α} :
    sPts c j q f
      ⊢ iprop((sPts c j q f -∗ wp frame (wpE (defs₀ (F := F)) 𝒱₀ (c : Thread nD τ) none) Set.univ
              (kk (sM.view.readAt (Elt F) (sRect off inb).toLoadRect f)) Q)
          -∗ wp frame (wpE (defs₀ (F := F)) 𝒱₀ (c : Thread nD τ) none) Set.univ (.op (.load sM (sRect off inb).toLoadRect hl) kk) Q) := by
  subst hoff
  unfold sPts
  exact wp_load 𝒱₀ (c : Thread nD τ) none Set.univ (m := sM) (s_setOn j inb)
theorem step_load_p (c : Dev nD) (j : Fin 4) {off} (hoff : off = sOff j) {inb} {hl : pM.view.LoadsAt (pRect off inb).toLoadRect}
    (q : PosShare TreeShare) (f : Buf (Elt F) ((c : Thread nD τ).loc cc0_scratch1))
    {α : Type} {Q : α → sProp 𝕄} {kk : (S1x256x1.Idx → Elt F .f32) → Prog (TpuEff nD τ sig (Elt F) Λ₀ .tc) α} :
    pPts c j q f
      ⊢ iprop((pPts c j q f -∗ wp frame (wpE (defs₀ (F := F)) 𝒱₀ (c : Thread nD τ) none) Set.univ
              (kk (pM.view.readAt (Elt F) (pRect off inb).toLoadRect f)) Q)
          -∗ wp frame (wpE (defs₀ (F := F)) 𝒱₀ (c : Thread nD τ) none) Set.univ (.op (.load pM (pRect off inb).toLoadRect hl) kk) Q) := by
  subst hoff
  unfold pPts
  exact wp_load 𝒱₀ (c : Thread nD τ) none Set.univ (m := pM) (p_setOn j inb)

/-- The store of its own block (partial sums) into its own slot. -/
theorem step_store_s (c : Dev nD) {off} (hoff : off = sOff (zc c)) {inb} {w : S1x256x4096.Idx → Elt F .bf16} (hw : w = blkOf m ρ c)
    {hx : (sM.access (sRect off inb)).Stores Finset.univ}
    {hm : (Finset.univ : Finset S1x256x4096.Idx) = Finset.univ ∨ ∀ a, (sRect off inb).stride a = 1}
    (f : Buf (Elt F) ((c : Thread nD τ).loc cc0_scratch0))
    {α : Type} {Q : α → sProp 𝕄} {kk : PUnit → Prog (TpuEff nD τ sig (Elt F) Λ₀ .tc) α} :
    sPts c (zc c) fullShare f
      ⊢ iprop((sPts c (zc c) fullShare (SL m ρ c) -∗ wp frame (wpE (defs₀ (F := F)) 𝒱₀ (c : Thread nD τ) none) Set.univ (kk ⟨⟩) Q)
          -∗ wp frame (wpE (defs₀ (F := F)) 𝒱₀ (c : Thread nD τ) none) Set.univ (.op (.store sM (sRect off inb) w Finset.univ hx hm) kk) Q) := by
  subst hoff hw
  rw [← sPts_congr c (zc c) fullShare (write_SL m ρ c rfl inb f)]
  unfold sPts
  exact wp_store 𝒱₀ (c : Thread nD τ) none Set.univ (m := sM) (r := sRect (sOff (zc c)) inb) (Mk := Finset.univ) (s_access (zc c) inb)
theorem step_store_p (c : Dev nD) {off} (hoff : off = sOff (zc c)) {inb} {w : S1x256x1.Idx → Elt F .f32} (hw : w = psumOf m ρ c)
    {hx : (pM.access (pRect off inb)).Stores Finset.univ}
    {hm : (Finset.univ : Finset S1x256x1.Idx) = Finset.univ ∨ ∀ a, (pRect off inb).stride a = 1}
    (f : Buf (Elt F) ((c : Thread nD τ).loc cc0_scratch1))
    {α : Type} {Q : α → sProp 𝕄} {kk : PUnit → Prog (TpuEff nD τ sig (Elt F) Λ₀ .tc) α} :
    pPts c (zc c) fullShare f
      ⊢ iprop((pPts c (zc c) fullShare (PS m ρ c) -∗ wp frame (wpE (defs₀ (F := F)) 𝒱₀ (c : Thread nD τ) none) Set.univ (kk ⟨⟩) Q)
          -∗ wp frame (wpE (defs₀ (F := F)) 𝒱₀ (c : Thread nD τ) none) Set.univ (.op (.store pM (pRect off inb) w Finset.univ hx hm) kk) Q) := by
  subst hoff hw
  rw [← pPts_congr c (zc c) fullShare (write_PS m ρ c rfl inb f)]
  unfold pPts
  exact wp_store 𝒱₀ (c : Thread nD τ) none Set.univ (m := pM) (r := pRect (sOff (zc c)) inb) (Mk := Finset.univ) (p_access (zc c) inb)

/-! ## The result buffer, the column blocks of `S` already stored -/

def oPts (c : Dev nD) (S : Finset (Fin 4)) : sProp 𝕄 :=
  iprop(∃ f : Buf (Elt F) ((c : Thread nD τ).loc cc0_stg2_0), ⌜∀ k ∈ S, ∀ i ∈ oSet k, f i = OUT m ρ c i⌝ ∗ (((c : Thread nD τ).loc cc0_stg2_0) ↦{fullShare} f))

/-- A load of the result buffer, whatever it reads. -/
theorem step_load_o (c : Dev nD) (S : Finset (Fin 4)) {r : LoadRect S256x16384} {hl : oM.view.LoadsAt r}
    {α : Type} {Q : α → sProp 𝕄} {kk : (r.shape.Idx → Elt F .f32) → Prog (TpuEff nD τ sig (Elt F) Λ₀ .tc) α} :
    oPts m ρ c S
      ⊢ iprop((∀ v, oPts m ρ c S -∗ wp frame (wpE (defs₀ (F := F)) 𝒱₀ (c : Thread nD τ) none) Set.univ (kk v) Q)
          -∗ wp frame (wpE (defs₀ (F := F)) 𝒱₀ (c : Thread nD τ) none) Set.univ (.op (.load oM r hl) kk) Q) := by
  unfold oPts
  iintro ⟨%f, %hf, H⟩ Hk
  iapply (wp_load 𝒱₀ (c : Thread nD τ) none Set.univ (m := oM) (Finset.subset_univ _)) $$ H
  iintro H
  iapply Hk
  iexists f
  isplitr; · (ipureintro; exact hf)
  iexact H

/-- The store of column block `j` of the result. -/
theorem step_store_o (c : Dev nD) (S : Finset (Fin 4)) (j : Fin 4) {off} (hoff : off = oOff j) {inb} {w : S256x4096.Idx → Elt F .f32}
    (hw : w = outBlk m ρ c j) {hx : (oM.access (oRect off inb)).Stores Finset.univ}
    {hm : (Finset.univ : Finset S256x4096.Idx) = Finset.univ ∨ ∀ a, (oRect off inb).stride a = 1}
    {α : Type} {Q : α → sProp 𝕄} {kk : PUnit → Prog (TpuEff nD τ sig (Elt F) Λ₀ .tc) α} :
    oPts m ρ c S
      ⊢ iprop((oPts m ρ c (insert j S) -∗ wp frame (wpE (defs₀ (F := F)) 𝒱₀ (c : Thread nD τ) none) Set.univ (kk ⟨⟩) Q)
          -∗ wp frame (wpE (defs₀ (F := F)) 𝒱₀ (c : Thread nD τ) none) Set.univ (.op (.store oM (oRect off inb) w Finset.univ hx hm) kk) Q) := by
  unfold oPts
  iintro ⟨%f, %hf, H⟩ Hk
  iapply (wp_store 𝒱₀ (c : Thread nD τ) none Set.univ (m := oM) (r := oRect off inb) (Mk := Finset.univ) (Finset.subset_univ _)) $$ H
  iintro H
  iapply Hk
  iexists ((oM.access (oRect off inb)).write (Elt F) f w Finset.univ)
  isplitr; · (ipureintro; exact write_OUT m ρ c j hoff inb f w hw S hf)
  iexact H

end Cert.KernelIdealProof

end

end
-- ==== Proof.KernelIdeal.State.lean ====
/-
# What a device holds when its body starts and ends

The positions, tokens and credits dealt to a device, the whole buffers cut into their slots, and what a device's own
signals hand over.
-/
module

public import proofs.«01_k».proof.Proof.KernelIdeal.Steps
public import proofs.«01_k».proof.Proof.Gen.KernelIdeal.Points

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A device's semaphores in the order its body uses them -/

def ordCK (c : Dev nD) : List CK :=
  [.bar, .cs 0, .cs 1, .cs 2, .cr 0, .cr 1, .cr 2, .ps 0, .ps 1, .ps 2, .pr (zc c), .pr (zc c + 1), .pr (zc c + 2), .pr (zc c + 3)]

theorem ordCK_all (c : Dev nD) : (Finset.univ : Finset CK) = (ordCK c).toFinset := by
  have h : ∀ z : Fin 4, (Finset.univ : Finset CK)
      = ([.bar, .cs 0, .cs 1, .cs 2, .cr 0, .cr 1, .cr 2, .ps 0, .ps 1, .ps 2, .pr z, .pr (z + 1), .pr (z + 2), .pr (z + 3)] : List CK).toFinset := by
    decide +kernel
  exact h (zc c)
theorem ordCK_nodup (c : Dev nD) : (ordCK c).Nodup := by
  have h : ∀ z : Fin 4,
      ([.bar, .cs 0, .cs 1, .cs 2, .cr 0, .cr 1, .cr 2, .ps 0, .ps 1, .ps 2, .pr z, .pr (z + 1), .pr (z + 2), .pr (z + 3)] : List CK).Nodup := by
    decide +kernel
  exact h (zc c)

theorem bigSep_ord (c : Dev nD) (Φ : CK → sProp 𝕄) :
    bigSep Finset.univ Φ = iprop(Φ .bar ∗ Φ (.cs 0) ∗ Φ (.cs 1) ∗ Φ (.cs 2) ∗ Φ (.cr 0) ∗ Φ (.cr 1) ∗ Φ (.cr 2)
      ∗ Φ (.ps 0) ∗ Φ (.ps 1) ∗ Φ (.ps 2) ∗ Φ (.pr (zc c)) ∗ Φ (.pr (zc c + 1)) ∗ Φ (.pr (zc c + 2)) ∗ Φ (.pr (zc c + 3))) := by
  rw [bigSep_eq_bigSepL_of_eq (ordCK c) (ordCK_all c) (ordCK_nodup c)]
  rfl

/-! ## What is dealt to a device -/

/-- The tokens of the duties device `c` pays: on its peers' barriers, on the partial-sum and block semaphores its copies
    land on, and on its own semaphores its copies return on. -/
def payToks (c : Dev nD) : sProp 𝕄 :=
  iprop(dutyTok ER (kcell (peer c 1, .bar)) 0 0 ∗ dutyTok ER (kcell (peer c 2, .bar)) 0 1 ∗ dutyTok ER (kcell (peer c 3, .bar)) 0 2
    ∗ dutyTok ER (kcell (peer c 1, .pr (zc c))) 0 0 ∗ dutyTok ER (kcell (peer c 2, .pr (zc c))) 0 0 ∗ dutyTok ER (kcell (peer c 3, .pr (zc c))) 0 0
    ∗ dutyTok ER (kcell (nxt c, .cr 0)) 0 0 ∗ dutyTok ER (kcell (nxt c, .cr 1)) 0 0 ∗ dutyTok ER (kcell (nxt c, .cr 2)) 0 0
    ∗ dutyTok ER (kcell (c, .cs 0)) 0 0 ∗ dutyTok ER (kcell (c, .cs 1)) 0 0 ∗ dutyTok ER (kcell (c, .cs 2)) 0 0
    ∗ dutyTok ER (kcell (c, .ps 0)) 0 0 ∗ dutyTok ER (kcell (c, .ps 1)) 0 0 ∗ dutyTok ER (kcell (c, .ps 2)) 0 0)

/-- The credits device `c` waits with for what others send. -/
def credsOf (c : Dev nD) : sProp 𝕄 :=
  iprop(cred (tallyAt (kcell (c, .bar)) () 3)
    ∗ cred (tallyAt (kcell (c, .pr (zc c + 1))) () (camount (.pr (zc c + 1))))
    ∗ cred (tallyAt (kcell (c, .pr (zc c + 2))) () (camount (.pr (zc c + 2))))
    ∗ cred (tallyAt (kcell (c, .pr (zc c + 3))) () (camount (.pr (zc c + 3))))
    ∗ cred (tallyAt (kcell (c, .cr 0)) () (camount (.cr 0))) ∗ cred (tallyAt (kcell (c, .cr 1)) () (camount (.cr 1)))
    ∗ cred (tallyAt (kcell (c, .cr 2)) () (camount (.cr 2))))

def ghost (K : Dev nD × CK → ℕ) (c : Dev nD) : sProp 𝕄 :=
  iprop(records m ρ K ∗ (bigSep Finset.univ fun k : CK => atPos ER (kcell (c, k)) 0 ∅ 0) ∗ payToks c)

def start (c : Dev nD) : sProp 𝕄 := iprop((∃ K, ghost m ρ K c) ∗ credsOf c ∗ levAts L lv)

/-- The block buffer and the partial-sum buffer, at anything. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- Before the body; after it: every semaphore is back at zero. -/
def Φ₀ (c : Dev nD) : sProp 𝕄 := iprop(start m ρ c ∗ scr c)
def Φ₁ (c : Dev nD) : sProp 𝕄 := iprop(scr c ∗ bigSep Finset.univ fun k : CK => semVal (kcell (c, k)) 0)

/-! ## Buffers cut into slots -/

theorem s_split (c : Dev nD) (f : Buf (Elt F) ((c : Thread nD τ).loc cc0_scratch0)) :
    (((c : Thread nD τ).loc cc0_scratch0) ↦{fullShare} f : sProp 𝕄)
      = iprop(sPts c (zc c) fullShare f ∗ sPts c (sl c 1) fullShare f ∗ sPts c (sl c 2) fullShare f ∗ sPts c (sl c 3) fullShare f) := by
  have hu : ∀ z : Fin 4, (Finset.univ : Finset (Fin 4)) = [z, z - 1, z - 2, z - 3].toFinset := by decide +kernel
  have hn : ∀ z : Fin 4, [z, z - 1, z - 2, z - 3].Nodup := by decide +kernel
  have h : (((c : Thread nD τ).loc cc0_scratch0) ↦{fullShare} f : sProp 𝕄) = bigSep Finset.univ fun j => sPts c j fullShare f :=
    (congrArg (fun S : Finset S4x256x4096.Idx => (((c : Thread nD τ).loc cc0_scratch0) ↦[S]{fullShare} f : sProp 𝕄)) sSet_cover).trans
      (pointsTo_biUnion (ℓ := (c : Thread nD τ).loc cc0_scratch0) (q := fullShare) (f := f) (Finset.univ : Finset (Fin 4)) sSet fun _ _ _ _ h => sSet_disjoint h)
  refine h.trans ?_
  rw [bigSep_eq_bigSepL_of_eq _ (hu (zc c)) (hn (zc c))]
  rfl
theorem p_split (c : Dev nD) (f : Buf (Elt F) ((c : Thread nD τ).loc cc0_scratch1)) :
    (((c : Thread nD τ).loc cc0_scratch1) ↦{fullShare} f : sProp 𝕄)
      = iprop(pPts c (zc c) fullShare f ∗ pPts c (zc c + 1) fullShare f ∗ pPts c (zc c + 2) fullShare f ∗ pPts c (zc c + 3) fullShare f) := by
  have hu : ∀ z : Fin 4, (Finset.univ : Finset (Fin 4)) = [z, z + 1, z + 2, z + 3].toFinset := by decide +kernel
  have hn : ∀ z : Fin 4, [z, z + 1, z + 2, z + 3].Nodup := by decide +kernel
  have h : (((c : Thread nD τ).loc cc0_scratch1) ↦{fullShare} f : sProp 𝕄) = bigSep Finset.univ fun j => pPts c j fullShare f :=
    (congrArg (fun S : Finset S4x256x1.Idx => (((c : Thread nD τ).loc cc0_scratch1) ↦[S]{fullShare} f : sProp 𝕄)) pSet_cover).trans
      (pointsTo_biUnion (ℓ := (c : Thread nD τ).loc cc0_scratch1) (q := fullShare) (f := f) (Finset.univ : Finset (Fin 4)) pSet fun _ _ _ _ h => pSet_disjoint h)
  refine h.trans ?_
  rw [bigSep_eq_bigSepL_of_eq _ (hu (zc c)) (hn (zc c))]
  rfl

theorem s_half (c : Dev nD) (j : Fin 4) (f : Buf (Elt F) ((c : Thread nD τ).loc cc0_scratch0)) :
    (sPts c j fullShare f : sProp 𝕄) ⊣⊢ iprop(sPts c j fullShare.left f ∗ sPts c j fullShare.right f) := by
  unfold sPts; exact pointsTo_share (PosShare.mem_left_op_right fullShare)

theorem p_split3 (c : Dev nD) (j : Fin 4) (f : Buf (Elt F) ((c : Thread nD τ).loc cc0_scratch1)) :
    (pPts c j fullShare f : sProp 𝕄) ⊢ iprop(pPts c j (psShare 0) f ∗ pPts c j (psShare 1) f ∗ pPts c j (psShare 2) f) := by
  unfold pPts psShare
  iintro H
  ihave H1 := (pointsTo_share (PosShare.mem_left_op_right fullShare)).1 $$ H
  icases H1 with ⟨Ha, H2⟩
  ihave H3 := (pointsTo_share (PosShare.mem_left_op_right fullShare.right)).1 $$ H2
  icases H3 with ⟨Hb, Hc⟩
  isplitl [Ha]; · iexact Ha
  isplitl [Hb]; · iexact Hb
  iexact Hc
theorem p_join3 (c : Dev nD) (j : Fin 4) (f : Buf (Elt F) ((c : Thread nD τ).loc cc0_scratch1)) :
    iprop(pPts c j (psShare 0) f ∗ pPts c j (psShare 1) f ∗ pPts c j (psShare 2) f) ⊢ (pPts c j fullShare f : sProp 𝕄) := by
  unfold pPts psShare
  iintro ⟨Ha, Hb, Hc⟩
  iapply (pointsTo_share (PosShare.mem_left_op_right fullShare)).2
  isplitl [Ha]; · iexact Ha
  iapply (pointsTo_share (PosShare.mem_left_op_right fullShare.right)).2
  isplitl [Hb]; · iexact Hb
  iexact Hc

/-! ## What its signals hand over -/

theorem sl_peer3 (c : Dev nD) (h : Fin 4) : sl (peer c 3) h = sl c (h + 1) := by revert c h; decide +kernel
theorem nxt_peer3 (c : Dev nD) : nxt (peer c 3) = c := by revert c; decide +kernel

theorem pay_bar1 (c : Dev nD) (f : Buf (Elt F) ((c : Thread nD τ).loc cc0_scratch1)) :
    (pPts c (zc c + 1) fullShare f : sProp 𝕄) ⊢ barPay (peer c 1) 0 := by
  show _ ⊢ iprop(∃ f, pPts (peer (peer c 1) 3) (zc (peer c 1)) fullShare f)
  rw [peer_peer1, zc_peer]
  iintro H; iexists f; iexact H
theorem pay_bar2 (c : Dev nD) (f : Buf (Elt F) ((c : Thread nD τ).loc cc0_scratch1)) :
    (pPts c (zc c + 2) fullShare f : sProp 𝕄) ⊢ barPay (peer c 2) 1 := by
  show _ ⊢ iprop(∃ f, pPts (peer (peer c 2) 2) (zc (peer c 2)) fullShare f)
  rw [peer_peer2, zc_peer]
  iintro H; iexists f; iexact H
theorem pay_bar3 (c : Dev nD) (f : Buf (Elt F) ((c : Thread nD τ).loc cc0_scratch1)) (g : Buf (Elt F) ((c : Thread nD τ).loc cc0_scratch0)) :
    iprop(pPts c (zc c + 3) fullShare f ∗ sPts c (sl c 1) fullShare g ∗ sPts c (sl c 2) fullShare g ∗ sPts c (sl c 3) fullShare g)
      ⊢ (barPay (peer c 3) 2 : sProp 𝕄) := by
  show _ ⊢ iprop((∃ f, pPts (peer (peer c 3) 1) (zc (peer c 3)) fullShare f) ∗ (∃ f, sPts (nxt (peer c 3)) (sl (peer c 3) 0) fullShare f)
      ∗ (∃ f, sPts (nxt (peer c 3)) (sl (peer c 3) 1) fullShare f) ∗ (∃ f, sPts (nxt (peer c 3)) (sl (peer c 3) 2) fullShare f))
  rw [peer_peer3, zc_peer, nxt_peer3, sl_peer3, sl_peer3, sl_peer3]
  iintro ⟨H, H1, H2, H3⟩
  isplitl [H]; · iexists f; iexact H
  isplitl [H1]; · iexists g; iexact H1
  isplitl [H2]; · iexists g; iexact H2
  iexists g; iexact H3

theorem bar_got (c : Dev nD) :
    iprop(barPay c 0 ∗ barPay c 1 ∗ barPay c 2)
      ⊢ (iprop((∃ f, pPts (peer c 3) (zc c) fullShare f) ∗ (∃ f, pPts (peer c 2) (zc c) fullShare f) ∗ (∃ f, pPts (peer c 1) (zc c) fullShare f)
          ∗ (∃ f, sPts (nxt c) (sl c 0) fullShare f) ∗ (∃ f, sPts (nxt c) (sl c 1) fullShare f) ∗ (∃ f, sPts (nxt c) (sl c 2) fullShare f)) : sProp 𝕄) :=
  BI.Entails.refl _

/-! ## Closing the semaphores -/

theorem close1 (K : Dev nD × CK → ℕ) (c : Dev nD) (k : CK) :
    iprop(records m ρ K ∗ atPos ER (kcell (c, k)) 1 ∅ 0) ⊢ |={Set.univ}=> (semVal (kcell (c, k)) 0 : sProp 𝕄) := by
  iintro ⟨#HR, H⟩
  iapply (Rounds.cell_close ER (ringRd m ρ) (Set.mem_univ (K (c, k))) (fun h => h) (R := 1) (duties_later m ρ (kcell (c, k))))
  isplitr; · iapply (inv_of m ρ K (c, k)); iexact HR
  iexact H
theorem close0 (K : Dev nD × CK → ℕ) (c : Dev nD) :
    iprop(records m ρ K ∗ atPos ER (kcell (c, .pr (zc c))) 0 ∅ 0) ⊢ |={Set.univ}=> (semVal (kcell (c, .pr (zc c))) 0 : sProp 𝕄) := by
  iintro ⟨#HR, H⟩
  iapply (Rounds.cell_close ER (ringRd m ρ) (Set.mem_univ (K (c, .pr (zc c)))) (fun h => h) (R := 0) (duties_own m ρ c))
  isplitr; · iapply (inv_of m ρ K (c, .pr (zc c))); iexact HR
  iexact H

/-- Where every semaphore's user stands at the end: past round 0, but for its own place's, which nobody uses. -/
def posEnd (c : Dev nD) (k : CK) : sProp 𝕄 := if k = .pr (zc c) then atPos ER (kcell (c, k)) 0 ∅ 0 else atPos ER (kcell (c, k)) 1 ∅ 0

theorem close_end (K : Dev nD × CK → ℕ) (c : Dev nD) (k : CK) :
    iprop(records m ρ K ∗ posEnd c k) ⊢ |={Set.univ}=> (semVal (kcell (c, k)) 0 : sProp 𝕄) := by
  unfold posEnd
  split
  · next h => subst h; exact close0 m ρ K c
  · exact close1 m ρ K c k

theorem close_all (K : Dev nD × CK → ℕ) (c : Dev nD) :
    iprop(records m ρ K ∗ bigSep Finset.univ fun k : CK => posEnd c k)
      ⊢ |={Set.univ}=> (bigSep Finset.univ fun k : CK => semVal (kcell (c, k)) 0 : sProp 𝕄) := by
  have h1 : (records m ρ K : sProp 𝕄) ⊢ bigSep Finset.univ fun _ : CK => records m ρ K := BI.bigSep_of_persistent _ _
  have h2 : iprop((bigSep Finset.univ fun _ : CK => records m ρ K) ∗ bigSep Finset.univ fun k : CK => posEnd c k)
      ⊢ (bigSep Finset.univ fun k : CK => iprop(|={Set.univ}=> semVal (kcell (c, k)) 0) : sProp 𝕄) := by
    rw [← bigSep_sep']
    exact bigSep_mono fun k _ => close_end m ρ K c k
  have h3 : (bigSep Finset.univ fun k : CK => iprop(|={Set.univ}=> semVal (kcell (c, k)) 0) : sProp 𝕄)
      ⊢ |={Set.univ}=> (bigSep Finset.univ fun k : CK => semVal (kcell (c, k)) 0 : sProp 𝕄) := bigSep_fupd Finset.univ _
  iintro ⟨#HR, H⟩
  iapply h3
  iapply h2
  isplitr [H]
  · iapply h1; iexact HR
  iexact H

end Cert.KernelIdealProof

end

end
-- ==== Proof.KernelIdeal.Body.lean ====
/-
# The body

The kernel's body run on one device, one step per effect, from what the device holds at the start to its result and its
semaphores back at zero.
-/
module

public import proofs.«01_k».proof.Proof.KernelIdeal.State

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => OUT m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Reading whole buffers -/

theorem hz : (![0, 0] : Fin 2 → Nat) = fun _ => 0 := funext fun a => by fin_cases a <;> rfl
theorem read_x (inb) (f : (cc0_stg0_0 : Ref sig .tc).ty.Contents (Elt F)) :
    xM.view.readAt (Elt F) (Rect.unit (s := S256x512) ![0, 0] S256x512.size inb).toLoadRect f = f :=
  Memref.readAt_unit_zero (Elt F) cc0_stg0_0 hz _ f
theorem read_w (inb) (f : (cc0_stg1_0 : Ref sig .tc).ty.Contents (Elt F)) :
    wM.view.readAt (Elt F) (Rect.unit (s := S512x4096) ![0, 0] S512x4096.size inb).toLoadRect f = f :=
  Memref.readAt_unit_zero (Elt F) cc0_stg1_0 hz _ f

/-! ## What is stored -/

theorem out_own (c : Dev nD) {p0 p1 p2 p3 : FVec F S1x256x1 .f32} (h0 : p0 = psumOf m ρ (pa c 0)) (h1 : p1 = psumOf m ρ (pa c 1))
    (h2 : p2 = psumOf m ρ (pa c 2)) (h3 : p3 = psumOf m ρ (pa c 3)) :
    k0_pay6 (k0_pay1 (xstg m ρ c) (wstg m ρ c)) (k0_pay4 p0 p1 p2) p3 = outBlk m ρ c (zc c) := by
  subst h0 h1 h2 h3; unfold outBlk; rw [if_pos rfl]
theorem sl_ne (c : Dev nD) (h : Fin 3) : sl c h.succ ≠ zc c := by revert c h; decide +kernel
theorem out_of (c : Dev nD) (j : Fin 4) (hj : j ≠ zc c) {v : FVec F S1x256x4096 .bf16} {p0 p1 p2 p3 : FVec F S1x256x1 .f32}
    (h0 : p0 = psumOf m ρ (pa c 0)) (h1 : p1 = psumOf m ρ (pa c 1)) (h2 : p2 = psumOf m ρ (pa c 2)) (h3 : p3 = psumOf m ρ (pa c 3))
    (hv : v = blkOf m ρ (pa c j)) :
    k0_pay8 (k0_pay5 (k0_pay4 p0 p1 p2) p3) (k0_pay7 v) = outBlk m ρ c j := by
  subst h0 h1 h2 h3 hv; unfold outBlk; rw [if_neg hj]; rfl

theorem zc_ne1 (c : Dev nD) : zc c ≠ zc c + 1 := by revert c; decide +kernel
theorem zc_ne2 (c : Dev nD) : zc c ≠ zc c + 2 := by revert c; decide +kernel
theorem zc_ne3 (c : Dev nD) : zc c ≠ zc c + 3 := by revert c; decide +kernel

/-! ## The body -/

section Body

variable (K : Dev nD × CK → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ credsOf c ∗ levAts L lv ∗ scr c)
    ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (xstg m ρ c) ∗ stg c cc0_stg1_0 (wstg m ρ c)
    ∗ stg c cc0_stg2_0 (OUT m ρ c))

/-- The block credits the device owes the next one. -/
abbrev crL (c : Dev nD) : List (Dev nD × CK) := [(nxt c, .cr 0), (nxt c, .cr 1), (nxt c, .cr 2)]

theorem crL_above (c : Dev nD) {b : ℕ} (hb : b < 3) : ∀ x ∈ crL c, b < clev x.2 := by
  intro x hx
  simp only [crL, List.mem_cons, List.not_mem_nil, or_false] at hx
  rcases hx with rfl | rfl | rfl <;> simp [clev] <;> omega
theorem crL1_above (c : Dev nD) {b : ℕ} (hb : b < 4) : ∀ x ∈ [(nxt c, CK.cr 1), (nxt c, CK.cr 2)], b < clev x.2 := by
  intro x hx
  simp only [List.mem_cons, List.not_mem_nil, or_false] at hx
  rcases hx with rfl | rfl <;> simp [clev] <;> omega
theorem crL2_above (c : Dev nD) {b : ℕ} (hb : b < 5) : ∀ x ∈ [(nxt c, CK.cr 2)], b < clev x.2 := by
  intro x hx
  simp only [List.mem_cons, List.not_mem_nil, or_false] at hx
  subst hx; simp [clev]; omega
theorem nil_above {b : ℕ} : ∀ x ∈ ([] : List (Dev nD × CK)), b < clev x.2 := fun x hx => absurd hx List.not_mem_nil
theorem prL_above (c : Dev nD) : ∀ x ∈ (pa c (zc c + 1), CK.pr (zc c)) :: (pa c (zc c + 2), .pr (zc c)) :: (pa c (zc c + 3), .pr (zc c)) :: crL c,
    1 < clev x.2 := by
  intro x hx
  simp only [crL, List.mem_cons, List.not_mem_nil, or_false] at hx
  rcases hx with rfl | rfl | rfl | rfl | rfl | rfl <;> simp [clev]

/-! ### At the two ends -/

theorem owes_start (c : Dev nD) :
    (dats m ρ 0 c).owesAt () t0_0.castSucc
      ⊢ owesX (F := F) c ((peer c 1, .bar) :: (peer c 2, .bar) :: (peer c 3, .bar)
          :: (pa c (zc c + 1), .pr (zc c)) :: (pa c (zc c + 2), .pr (zc c)) :: (pa c (zc c + 3), .pr (zc c)) :: crL c) := by
  unfold Dat.owesAt Pipeline.owesWithin owesX
  iintro ⟨%W, -, HO⟩
  iexists W; iexact HO
theorem owes_end (c : Dev nD) : owesX (F := F) c [] ⊢ (dats m ρ 0 c).owesAt () t0_0.succ := by
  unfold Dat.owesAt Pipeline.owesWithin owesX
  iintro ⟨%W, HO⟩
  iexists W
  isplitr; · ipureintro; exact fun _ _ => Or.inl trivial
  iexact HO

theorem out_start (c : Dev nD) (g : Buf (Elt F) ((c : Thread nD τ).loc cc0_stg2_0)) :
    (((c : Thread nD τ).loc cc0_stg2_0) ↦{fullShare} g : sProp 𝕄) ⊢ oPts m ρ c ∅ := by
  unfold oPts
  iintro H
  iexists g
  isplitr; · ipureintro; exact fun k hk => absurd hk (Finset.notMem_empty k)
  iexact H
theorem out_end (c : Dev nD) :
    oPts m ρ c (insert (sl c 3) (insert (sl c 2) (insert (sl c 1) (insert (zc c) ∅)))) ⊢ (stg c cc0_stg2_0 (OUT m ρ c) : sProp 𝕄) := by
  unfold oPts
  iintro ⟨%f, %hf, H⟩
  iexists f
  isplitr; · ipureintro; exact OUT_of_all m ρ c f _ (all_slots c) hf
  iexact H

theorem psums_whole (c : Dev nD) :
    iprop(cpay m ρ c (.ps 0) 0 ∗ cpay m ρ c (.ps 1) 0 ∗ cpay m ρ c (.ps 2) 0
        ∗ cpay m ρ c (.pr (zc c + 1)) 0 ∗ cpay m ρ c (.pr (zc c + 2)) 0 ∗ cpay m ρ c (.pr (zc c + 3)) 0)
      ⊢ (((c : Thread nD τ).loc cc0_scratch1) ↦{fullShare} (PS m ρ c) : sProp 𝕄) := by
  rw [p_split]
  unfold cpay
  iintro ⟨H0, H1, H2, H3⟩
  isplitl [H0 H1 H2]
  · iapply (p_join3 c (zc c) (PS m ρ c))
    isplitl [H0]; · iexact H0
    isplitl [H1]; · iexact H1
    iexact H2
  iexact H3

theorem own_half (c : Dev nD) :
    (sPts c (zc c) fullShare (SL m ρ c) : sProp 𝕄) ⊢ iprop(sPts c (sl c 0) fullShare.left (SL m ρ c) ∗ sPts c (sl c 0) fullShare.right (SL m ρ c)) := by
  rw [sl_zero]; exact (s_half c (zc c) (SL m ρ c)).1
theorem got_half (c : Dev nD) (h : Fin 3) (j : Fin 4) (hj : j = h.succ) :
    cpay m ρ c (.cr h) 0 ⊢ (iprop(sPts c (sl c j) fullShare.left (SL m ρ c) ∗ sPts c (sl c j) fullShare.right (SL m ρ c)) : sProp 𝕄) := by
  subst hj; unfold cpay; exact (s_half c (sl c h.succ) (SL m ρ c)).1
theorem got_last (c : Dev nD) : cpay m ρ c (.cr 2) 0 ⊢ (sPts c (sl c 3) fullShare (SL m ρ c) : sProp 𝕄) := BI.Entails.refl _

theorem blocks_whole (c : Dev nD) :
    iprop(cpay m ρ c (.cs 0) 0 ∗ sPts c (sl c 0) fullShare.right (SL m ρ c) ∗ cpay m ρ c (.cs 1) 0 ∗ sPts c (sl c 1) fullShare.right (SL m ρ c)
        ∗ cpay m ρ c (.cs 2) 0 ∗ sPts c (sl c 2) fullShare.right (SL m ρ c) ∗ sPts c (sl c 3) fullShare (SL m ρ c))
      ⊢ (iprop(∃ f : Buf (Elt F) ((c : Thread nD τ).loc cc0_scratch0), ((c : Thread nD τ).loc cc0_scratch0) ↦{fullShare} f) : sProp 𝕄) := by
  show iprop(sPts c (sl c 0) fullShare.left (SL m ρ c) ∗ sPts c (sl c 0) fullShare.right (SL m ρ c)
      ∗ sPts c (sl c 1) fullShare.left (SL m ρ c) ∗ sPts c (sl c 1) fullShare.right (SL m ρ c)
      ∗ sPts c (sl c 2) fullShare.left (SL m ρ c) ∗ sPts c (sl c 2) fullShare.right (SL m ρ c) ∗ sPts c (sl c 3) fullShare (SL m ρ c)) ⊢ _
  iintro ⟨A0, B0, A1, B1, A2, B2, H3⟩
  iexists (SL m ρ c)
  rw [s_split, sl_zero]
  isplitl [A0 B0]
  · iapply (s_half c (zc c) (SL m ρ c)).2; isplitl [A0] <;> iassumption
  isplitl [A1 B1]
  · iapply (s_half c (sl c 1) (SL m ρ c)).2; isplitl [A1] <;> iassumption
  isplitl [A2 B2]
  · iapply (s_half c (sl c 2) (SL m ρ c)).2; isplitl [A2] <;> iassumption
  iexact H3

theorem close_list (c : Dev nD) :
    iprop(records m ρ K ∗ atPos ER (kcell (c, .bar)) 1 ∅ 0
        ∗ atPos ER (kcell (c, .cs 0)) 1 ∅ 0 ∗ atPos ER (kcell (c, .cs 1)) 1 ∅ 0 ∗ atPos ER (kcell (c, .cs 2)) 1 ∅ 0
        ∗ atPos ER (kcell (c, .cr 0)) 1 ∅ 0 ∗ atPos ER (kcell (c, .cr 1)) 1 ∅ 0 ∗ atPos ER (kcell (c, .cr 2)) 1 ∅ 0
        ∗ atPos ER (kcell (c, .ps 0)) 1 ∅ 0 ∗ atPos ER (kcell (c, .ps 1)) 1 ∅ 0 ∗ atPos ER (kcell (c, .ps 2)) 1 ∅ 0
        ∗ atPos ER (kcell (c, .pr (zc c))) 0 ∅ 0
        ∗ atPos ER (kcell (c, .pr (zc c + 1))) 1 ∅ 0 ∗ atPos ER (kcell (c, .pr (zc c + 2))) 1 ∅ 0 ∗ atPos ER (kcell (c, .pr (zc c + 3))) 1 ∅ 0)
      ⊢ |={Set.univ}=> (bigSep Finset.univ fun k : CK => semVal (kcell (c, k)) 0 : sProp 𝕄) := by
  have h := close_all m ρ K c
  rw [bigSep_ord c (fun k => posEnd c k)] at h
  have n : ∀ j, j ≠ zc c → CK.pr j ≠ .pr (zc c) := fun j hj e => hj (CK.pr.inj e)
  simp only [posEnd, if_true, if_neg (n _ (zc_ne1 c).symm), if_neg (n _ (zc_ne2 c).symm), if_neg (n _ (zc_ne3 c).symm), reduceCtorEq, if_false] at h
  exact h

/-! ### Run -/

set_option maxHeartbeats 3200000 in
/-- The body, symbolically executed from `bodyPre`, one rule per effect in program order, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3 cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel
  simp only [semSignalWord, semWaitWord, Prog.lift, Prog.bind_op, Prog.bind_ret, Prog.pure_eq_ret, wp_deviceId]
  unfold bodyPre ghost payToks credsOf scr
  rw [bigSep_ord c]
  iintro ⟨⟨⟨⟨#HR, ⟨HaB, HaS0, HaS1, HaS2, HaR0, HaR1, HaR2, HaP0, HaP1, HaP2, HaQ, HaQ1, HaQ2, HaQ3⟩, HtB1, HtB2, HtB3, HtQ1, HtQ2, HtQ3, HtR0, HtR1, HtR2, HtS0, HtS1, HtS2, HtP0, HtP1, HtP2⟩,
    ⟨HcB, HcQ1, HcQ2, HcQ3, HcR0, HcR1, HcR2⟩, #Hlev, ⟨%fs, Hs⟩, ⟨%fp, Hp⟩⟩, Ho, ⟨%d0, %g0, %hg0, Hx⟩, ⟨%d1, %g1, %hg1, Hw⟩, ⟨%d2, %g2, %hg2, Hout⟩⟩, Hk⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx hw
  clear hg0 hg1 hg2
  ihave HO := (owes_start m ρ c) $$ Ho
  -- the buffers in slots
  ihave Hs := (Entails.of_eq (s_split c fs)) $$ Hs
  icases Hs with ⟨Hs0, Hs1, Hs2, Hs3⟩
  ihave Hp := (Entails.of_eq (p_split c fp)) $$ Hp
  icases Hp with ⟨Hp0, Hp1, Hp2, Hp3⟩
  ihave Hout := (out_start m ρ c g2) $$ Hout
  -- the signals to the three peers' barriers
  iapply (step_signal m ρ K c _ (peer c 1) (dev1_eq c) 0 ((peer c 2, .bar) :: (peer c 3, .bar) :: (pa c (zc c + 1), CK.pr (zc c)) :: (pa c (zc c + 2), .pr (zc c)) :: (pa c (zc c + 3), .pr (zc c)) :: crL c) rfl) $$ [HO HtB1 Hp1]
  · isplitr; · iexact HR
    isplitl [HO]; · iexact HO
    isplitl [HtB1]; · iexact HtB1
    iapply (pay_bar1 c fp); iexact Hp1
  iintro HO
  iapply (step_signal m ρ K c _ (peer c 2) (dev2_eq c) 1 ((peer c 3, .bar) :: (pa c (zc c + 1), CK.pr (zc c)) :: (pa c (zc c + 2), .pr (zc c)) :: (pa c (zc c + 3), .pr (zc c)) :: crL c) rfl) $$ [HO HtB2 Hp2]
  · isplitr; · iexact HR
    isplitl [HO]; · iexact HO
    isplitl [HtB2]; · iexact HtB2
    iapply (pay_bar2 c fp); iexact Hp2
  iintro HO
  ihave Hpay := (pay_bar3 c fp fs) $$ [Hp3 Hs1 Hs2 Hs3]
  · isplitl [Hp3]; · iexact Hp3
    isplitl [Hs1]; · iexact Hs1
    isplitl [Hs2] <;> iassumption
  iapply (step_signal m ρ K c _ (peer c 3) (dev3_eq c) 2 ((pa c (zc c + 1), CK.pr (zc c)) :: (pa c (zc c + 2), .pr (zc c)) :: (pa c (zc c + 3), .pr (zc c)) :: crL c) rfl) $$ [HO HtB3 Hpay]
  · isplitr; · iexact HR
    isplitl [HO]; · iexact HO
    isplitl [HtB3]; · iexact HtB3
    iexact Hpay
  iintro HO
  -- the wait on its own barrier
  iapply (step_wait_bar m ρ K c ((pa c (zc c + 1), CK.pr (zc c)) :: (pa c (zc c + 2), .pr (zc c)) :: (pa c (zc c + 3), .pr (zc c)) :: crL c) (prL_above c) rfl) $$ [HcB HO HaB]
  · isplitr; · iexact HR
    isplitr; · iexact Hlev
    isplitl [HcB]; · iexact HcB
    isplitl [HO]; · iexact HO
    iexact HaB
  iintro ⟨HO, HaB, Hpay⟩
  ihave Hpay := (bar_got c) $$ Hpay
  icases Hpay with ⟨⟨%e3, Hd3⟩, ⟨%e2, Hd2⟩, ⟨%e1, Hd1⟩, ⟨%u0, Hn0⟩, ⟨%u1, Hn1⟩, ⟨%u2, Hn2⟩⟩
  -- its block and its partial sums, each stored in its own slot
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  rw [read_x, read_w]
  iapply (step_load_s c (zc c) (off1_eq c) fullShare fs) $$ Hs0; iintro Hs0
  iapply (step_store_s m ρ c (off1_eq c) rfl fs) $$ Hs0; iintro Hs0
  iapply (step_load_p c (zc c) (off2_eq c) fullShare fp) $$ Hp0; iintro Hp0
  iapply (step_store_p m ρ c (off2_eq c) rfl fp) $$ Hp0; iintro Hp0
  -- the three copies of the partial sums
  ihave Hp0 := (p_split3 c (zc c) (PS m ρ c)) $$ Hp0
  icases Hp0 with ⟨Hq0, Hq1, Hq2⟩
  iapply (step_send_p m ρ K c _ (zc c + 1) (dev4_eq c) (zc_ne1 c) 0 ((pa c (zc c + 2), CK.pr (zc c)) :: (pa c (zc c + 3), .pr (zc c)) :: crL c) (off4_eq c) rfl (congrArg SemLoc.dma (sem4_eq (off3_eq c) _)) e1) $$ [Hq0 Hd1 HO HtP0 HtQ1]
  · isplitr; · iexact HR
    isplitl [Hq0]; · iexact Hq0
    isplitl [Hd1]; · iexact Hd1
    isplitl [HO]; · iexact HO
    isplitl [HtP0]; · iexact HtP0
    iexact HtQ1
  iintro ⟨HcP0, HO⟩
  iapply (step_send_p m ρ K c _ (zc c + 2) (dev5_eq c) (zc_ne2 c) 1 ((pa c (zc c + 3), CK.pr (zc c)) :: crL c) (off4_eq c) rfl (congrArg SemLoc.dma (sem4_eq (off3_eq c) _)) e2) $$ [Hq1 Hd2 HO HtP1 HtQ2]
  · isplitr; · iexact HR
    isplitl [Hq1]; · iexact Hq1
    isplitl [Hd2]; · iexact Hd2
    isplitl [HO]; · iexact HO
    isplitl [HtP1]; · iexact HtP1
    iexact HtQ2
  iintro ⟨HcP1, HO⟩
  iapply (step_send_p m ρ K c _ (zc c + 3) (dev6_eq c) (zc_ne3 c) 2 (crL c) (off4_eq c) rfl (congrArg SemLoc.dma (sem4_eq (off3_eq c) _)) e3) $$ [Hq2 Hd3 HO HtP2 HtQ3]
  · isplitr; · iexact HR
    isplitl [Hq2]; · iexact Hq2
    isplitl [Hd3]; · iexact Hd3
    isplitl [HO]; · iexact HO
    isplitl [HtP2]; · iexact HtP2
    iexact HtQ3
  iintro ⟨HcP2, HO⟩
  -- the peers' partial sums arrive
  iapply (step_wait_dma m ρ K c (.pr (zc c + 1)) (if_neg (zc_ne1 c).symm) (crL c) (crL_above c (Nat.lt_succ_self 2)) (congrArg SemLoc.dma (sem4_eq (off5_1 c) _)) (NP_eq _ _)) $$ [HcQ1 HO HaQ1]
  · isplitr; · iexact HR
    isplitr; · iexact Hlev
    isplitl [HcQ1]; · iexact HcQ1
    isplitl [HO]; · iexact HO
    iexact HaQ1
  iintro ⟨HO, HaQ1, Hp1⟩
  iapply (step_wait_dma m ρ K c (.pr (zc c + 2)) (if_neg (zc_ne2 c).symm) (crL c) (crL_above c (Nat.lt_succ_self 2)) (congrArg SemLoc.dma (sem4_eq (off5_2 c) _)) (NP_eq _ _)) $$ [HcQ2 HO HaQ2]
  · isplitr; · iexact HR
    isplitr; · iexact Hlev
    isplitl [HcQ2]; · iexact HcQ2
    isplitl [HO]; · iexact HO
    iexact HaQ2
  iintro ⟨HO, HaQ2, Hp2⟩
  iapply (step_wait_dma m ρ K c (.pr (zc c + 3)) (if_neg (zc_ne3 c).symm) (crL c) (crL_above c (Nat.lt_succ_self 2)) (congrArg SemLoc.dma (sem4_eq (off5_3 c) _)) (NP_eq _ _)) $$ [HcQ3 HO HaQ3]
  · isplitr; · iexact HR
    isplitr; · iexact Hlev
    isplitl [HcQ3]; · iexact HcQ3
    isplitl [HO]; · iexact HO
    iexact HaQ3
  iintro ⟨HO, HaQ3, Hp3⟩
  -- its own copies have left
  iapply (step_wait_dma m ρ K c (.ps 0) rfl (crL c) (crL_above c (by decide)) rfl (NP_eq _ _)) $$ [HcP0 HO HaP0]
  · isplitr; · iexact HR
    isplitr; · iexact Hlev
    isplitl [HcP0]; · iexact HcP0
    isplitl [HO]; · iexact HO
    iexact HaP0
  iintro ⟨HO, HaP0, Hq0⟩
  iapply (step_wait_dma m ρ K c (.ps 1) rfl (crL c) (crL_above c (by decide)) rfl (NP_eq _ _)) $$ [HcP1 HO HaP1]
  · isplitr; · iexact HR
    isplitr; · iexact Hlev
    isplitl [HcP1]; · iexact HcP1
    isplitl [HO]; · iexact HO
    iexact HaP1
  iintro ⟨HO, HaP1, Hq1⟩
  iapply (step_wait_dma m ρ K c (.ps 2) rfl (crL c) (crL_above c (by decide)) rfl (NP_eq _ _)) $$ [HcP2 HO HaP2]
  · isplitr; · iexact HR
    isplitr; · iexact Hlev
    isplitl [HcP2]; · iexact HcP2
    isplitl [HO]; · iexact HO
    iexact HaP2
  iintro ⟨HO, HaP2, Hq2⟩
  ihave Hp := (psums_whole m ρ c) $$ [Hq0 Hq1 Hq2 Hp1 Hp2 Hp3]
  · isplitl [Hq0]; · iexact Hq0
    isplitl [Hq1]; · iexact Hq1
    isplitl [Hq2]; · iexact Hq2
    isplitl [Hp1]; · iexact Hp1
    isplitl [Hp2]; · iexact Hp2
    iexact Hp3
  -- the four slots of partial sums
  iapply (wp_load 𝒱₀ (c : Thread nD τ) none Set.univ (m := pM) (Finset.subset_univ _)) $$ Hp; iintro Hp
  iapply (wp_load 𝒱₀ (c : Thread nD τ) none Set.univ (m := pM) (Finset.subset_univ _)) $$ Hp; iintro Hp
  iapply (wp_load 𝒱₀ (c : Thread nD τ) none Set.univ (m := pM) (Finset.subset_univ _)) $$ Hp; iintro Hp
  iapply (wp_load 𝒱₀ (c : Thread nD τ) none Set.univ (m := pM) (Finset.subset_univ _)) $$ Hp; iintro Hp
  -- the first block on its way, its own columns of the result meanwhile
  ihave Hs0 := (own_half m ρ c) $$ Hs0
  icases Hs0 with ⟨Hl0, Hr0⟩
  iapply (step_send_s m ρ K c _ (dev7_eq c) 0 0 rfl [(nxt c, .cr 1), (nxt c, .cr 2)] (off7_0 c) rfl rfl u0) $$ [Hl0 Hn0 HO HtS0 HtR0]
  · isplitr; · iexact HR
    isplitl [Hl0]; · iexact Hl0
    isplitl [Hn0]; · iexact Hn0
    isplitl [HO]; · iexact HO
    isplitl [HtS0]; · iexact HtS0
    iexact HtR0
  iintro ⟨HcS0, HO⟩
  iapply (step_load_o m ρ c (∅)) $$ Hout; iintro %_ Hout
  iapply (step_store_o m ρ c (∅) (zc c) (off8_eq c) (out_own m ρ c (read_PS m ρ c 0 rfl _) (read_PS m ρ c 1 rfl _) (read_PS m ρ c 2 rfl _) (read_PS m ρ c 3 rfl _))) $$ Hout; iintro Hout
  iapply (step_wait_dma m ρ K c (.cr 0) rfl [(nxt c, .cr 1), (nxt c, .cr 2)] (crL1_above c (by decide)) rfl (NC_eq _ _)) $$ [HcR0 HO HaR0]
  · isplitr; · iexact HR
    isplitr; · iexact Hlev
    isplitl [HcR0]; · iexact HcR0
    isplitl [HO]; · iexact HO
    iexact HaR0
  iintro ⟨HO, HaR0, Hb1⟩
  ihave Hb1 := (got_half m ρ c 0 1 rfl) $$ Hb1
  icases Hb1 with ⟨Hl1, Hr1⟩
  iapply (step_send_s m ρ K c _ (dev8_eq c) 1 1 rfl [(nxt c, .cr 2)] (off7_1 c) rfl rfl u1) $$ [Hl1 Hn1 HO HtS1 HtR1]
  · isplitr; · iexact HR
    isplitl [Hl1]; · iexact Hl1
    isplitl [Hn1]; · iexact Hn1
    isplitl [HO]; · iexact HO
    isplitl [HtS1]; · iexact HtS1
    iexact HtR1
  iintro ⟨HcS1, HO⟩
  iapply (step_load_s c (sl c 1) (off10_0 c) fullShare.right (SL m ρ c)) $$ Hr1; iintro Hr1
  iapply (step_load_o m ρ c (insert (zc c) ∅)) $$ Hout; iintro %_ Hout
  iapply (step_store_o m ρ c (insert (zc c) ∅) (sl c 1) (off11_0 c) (out_of m ρ c (sl c 1) (sl_ne c 0) (read_PS m ρ c 0 rfl _) (read_PS m ρ c 1 rfl _) (read_PS m ρ c 2 rfl _) (read_PS m ρ c 3 rfl _) (read_SL m ρ c (sl c 1) (off10_0 c) _))) $$ Hout; iintro Hout
  iapply (step_wait_dma m ρ K c (.cs 0) rfl [(nxt c, .cr 2)] (crL2_above c (by decide)) rfl (NC_eq _ _)) $$ [HcS0 HO HaS0]
  · isplitr; · iexact HR
    isplitr; · iexact Hlev
    isplitl [HcS0]; · iexact HcS0
    isplitl [HO]; · iexact HO
    iexact HaS0
  iintro ⟨HO, HaS0, Hl0⟩
  iapply (step_wait_dma m ρ K c (.cr 1) rfl [(nxt c, .cr 2)] (crL2_above c (by decide)) rfl (NC_eq _ _)) $$ [HcR1 HO HaR1]
  · isplitr; · iexact HR
    isplitr; · iexact Hlev
    isplitl [HcR1]; · iexact HcR1
    isplitl [HO]; · iexact HO
    iexact HaR1
  iintro ⟨HO, HaR1, Hb2⟩
  ihave Hb2 := (got_half m ρ c 1 2 rfl) $$ Hb2
  icases Hb2 with ⟨Hl2, Hr2⟩
  iapply (step_send_s m ρ K c _ (dev9_eq c) 2 2 rfl [] (off7_2 c) rfl rfl u2) $$ [Hl2 Hn2 HO HtS2 HtR2]
  · isplitr; · iexact HR
    isplitl [Hl2]; · iexact Hl2
    isplitl [Hn2]; · iexact Hn2
    isplitl [HO]; · iexact HO
    isplitl [HtS2]; · iexact HtS2
    iexact HtR2
  iintro ⟨HcS2, HO⟩
  iapply (step_load_s c (sl c 2) (off10_1 c) fullShare.right (SL m ρ c)) $$ Hr2; iintro Hr2
  iapply (step_load_o m ρ c (insert (sl c 1) (insert (zc c) ∅))) $$ Hout; iintro %_ Hout
  iapply (step_store_o m ρ c (insert (sl c 1) (insert (zc c) ∅)) (sl c 2) (off11_1 c) (out_of m ρ c (sl c 2) (sl_ne c 1) (read_PS m ρ c 0 rfl _) (read_PS m ρ c 1 rfl _) (read_PS m ρ c 2 rfl _) (read_PS m ρ c 3 rfl _) (read_SL m ρ c (sl c 2) (off10_1 c) _))) $$ Hout; iintro Hout
  iapply (step_wait_dma m ρ K c (.cs 1) rfl [] nil_above rfl (NC_eq _ _)) $$ [HcS1 HO HaS1]
  · isplitr; · iexact HR
    isplitr; · iexact Hlev
    isplitl [HcS1]; · iexact HcS1
    isplitl [HO]; · iexact HO
    iexact HaS1
  iintro ⟨HO, HaS1, Hl1⟩
  iapply (step_wait_dma m ρ K c (.cr 2) rfl [] nil_above rfl (NC_eq _ _)) $$ [HcR2 HO HaR2]
  · isplitr; · iexact HR
    isplitr; · iexact Hlev
    isplitl [HcR2]; · iexact HcR2
    isplitl [HO]; · iexact HO
    iexact HaR2
  iintro ⟨HO, HaR2, Hb3⟩
  ihave Hb3 := (got_last m ρ c) $$ Hb3
  iapply (step_load_s c (sl c 3) (off10_2 c) fullShare (SL m ρ c)) $$ Hb3; iintro Hb3
  iapply (step_load_o m ρ c (insert (sl c 2) (insert (sl c 1) (insert (zc c) ∅)))) $$ Hout; iintro %_ Hout
  iapply (step_store_o m ρ c (insert (sl c 2) (insert (sl c 1) (insert (zc c) ∅))) (sl c 3) (off11_2 c) (out_of m ρ c (sl c 3) (sl_ne c 2) (read_PS m ρ c 0 rfl _) (read_PS m ρ c 1 rfl _) (read_PS m ρ c 2 rfl _) (read_PS m ρ c 3 rfl _) (read_SL m ρ c (sl c 3) (off10_2 c) _))) $$ Hout; iintro Hout
  iapply (step_wait_dma m ρ K c (.cs 2) rfl [] nil_above rfl (NC_eq _ _)) $$ [HcS2 HO HaS2]
  · isplitr; · iexact HR
    isplitr; · iexact Hlev
    isplitl [HcS2]; · iexact HcS2
    isplitl [HO]; · iexact HO
    iexact HaS2
  iintro ⟨HO, HaS2, Hl2⟩
  -- everything back
  imod (close_list m ρ K c) $$ [HaB HaS0 HaS1 HaS2 HaR0 HaR1 HaR2 HaP0 HaP1 HaP2 HaQ HaQ1 HaQ2 HaQ3] with Hz
  · isplitr; · iexact HR
    isplitl [HaB]; · iexact HaB
    isplitl [HaS0]; · iexact HaS0
    isplitl [HaS1]; · iexact HaS1
    isplitl [HaS2]; · iexact HaS2
    isplitl [HaR0]; · iexact HaR0
    isplitl [HaR1]; · iexact HaR1
    isplitl [HaR2]; · iexact HaR2
    isplitl [HaP0]; · iexact HaP0
    isplitl [HaP1]; · iexact HaP1
    isplitl [HaP2]; · iexact HaP2
    isplitl [HaQ]; · iexact HaQ
    isplitl [HaQ1]; · iexact HaQ1
    isplitl [HaQ2]; · iexact HaQ2
    iexact HaQ3
  ihave Hs := (blocks_whole m ρ c) $$ [Hl0 Hr0 Hl1 Hr1 Hl2 Hr2 Hb3]
  · isplitl [Hl0]; · iexact Hl0
    isplitl [Hr0]; · iexact Hr0
    isplitl [Hl1]; · iexact Hl1
    isplitl [Hr1]; · iexact Hr1
    isplitl [Hl2]; · iexact Hl2
    isplitl [Hr2]; · iexact Hr2
    iexact Hb3
  ihave Hout := (out_end m ρ c) $$ Hout
  ihave Ho := (owes_end m ρ c) $$ HO
  rw [wp_ret]; imodintro
  iapply Hk
  unfold bodyPost Φ₁ scr
  isplitl [Hs Hp Hz]
  · isplitl [Hs Hp]
    · isplitl [Hs]; · iexact Hs
      iexists _; iexact Hp
    iexact Hz
  isplitl [Ho]; · iexact Ho
  isplitl [Hx]
  · iexists _; isplitr; · (ipureintro; rfl)
    iexact Hx
  isplitl [Hw]
  · iexists _; isplitr; · (ipureintro; rfl)
    iexact Hw
  iexact Hout

set_option maxRecDepth 4000 in
def bodyPre' (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 4000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3 cc0_scratch4 cc0_scratch5) (fun _ => bodyPost m ρ c)
  unfold bodyPre' Φ₀ start
  iintro ⟨⟨⟨⟨%K, Hg⟩, Hc, Hlev⟩, Hscr⟩, Ho, Hx, Hw, Hout⟩
  iapply (sound_body m ρ K c fun _ => bodyPost m ρ c)
  unfold bodyPre
  isplitr []
  · isplitl [Hg Hc Hlev Hscr]
    · isplitl [Hg]; · iexact Hg
      isplitl [Hc]; · iexact Hc
      isplitl [Hlev]; · iexact Hlev
      iexact Hscr
    isplitl [Ho]; · iexact Ho
    isplitl [Hx]; · iexact Hx
    isplitl [Hw] <;> iassumption
  · iintro H; iexact H

end Body

end Cert.KernelIdealProof

end

end
-- ==== Proof.KernelIdeal.Launch.lean ====
/-
# The launch

The semaphores' invariants are allocated, the positions and tokens dealt to the devices that use them, and the credits
the devices owe each other found at the semaphores they are waited on; then the library's theorem runs the program.
-/
module

public import proofs.«01_k».proof.Proof.KernelIdeal.Body
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

def ownCK : Fin 13 → CK :=
  ![.cs 0, .cs 1, .cs 2, .cr 0, .cr 1, .cr 2, .ps 0, .ps 1, .ps 2, .pr 0, .pr 1, .pr 2, .pr 3]
def osem (i : Fin 13) : SemLoc sig := csem (ownCK i)

theorem ownSemFacts : Pipeline.OwnSemFacts cfg0.spec osem := by decide

theorem bigSep_all (Φ : CK → sProp 𝕄) :
    bigSep Finset.univ Φ = iprop(Φ .bar ∗ Φ (.cs 0) ∗ Φ (.cs 1) ∗ Φ (.cs 2) ∗ Φ (.cr 0) ∗ Φ (.cr 1) ∗ Φ (.cr 2)
      ∗ Φ (.ps 0) ∗ Φ (.ps 1) ∗ Φ (.ps 2) ∗ Φ (.pr 0) ∗ Φ (.pr 1) ∗ Φ (.pr 2) ∗ Φ (.pr 3)) := by
  rw [bigSep_eq_bigSepL_of_eq allCK univ_CK nodup_allCK]
  rfl

theorem ownSems0_eq (c : Dev nD) : (Pipeline.ownSems0 (Ix := Unit) (Name := ℕ) (U := UU) (Lvl := ℕ) (Val := Elt F) (τ := τ) osem c : sProp 𝕄)
    = iprop(semVal (kcell (c, .cs 0)) 0 ∗ semVal (kcell (c, .cs 1)) 0 ∗ semVal (kcell (c, .cs 2)) 0
      ∗ semVal (kcell (c, .cr 0)) 0 ∗ semVal (kcell (c, .cr 1)) 0 ∗ semVal (kcell (c, .cr 2)) 0
      ∗ semVal (kcell (c, .ps 0)) 0 ∗ semVal (kcell (c, .ps 1)) 0 ∗ semVal (kcell (c, .ps 2)) 0
      ∗ semVal (kcell (c, .pr 0)) 0 ∗ semVal (kcell (c, .pr 1)) 0 ∗ semVal (kcell (c, .pr 2)) 0 ∗ semVal (kcell (c, .pr 3)) 0) := by
  rw [Pipeline.ownSems0_eq_of_list c osem [0, 1, 2, 3, 4, 5, 6, 7, 8, 9, 10, 11, 12] (by decide) (by decide)]; rfl
theorem unscopedSems0_eq (c : Dev nD) : (unscopedSems0 c : sProp 𝕄) = semVal (kcell (c, .bar)) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊣⊢ (bigSep Finset.univ fun k : CK => semVal (kcell (c, k)) 0 : sProp 𝕄) := by
  rw [ownSems0_eq, unscopedSems0_eq, bigSep_all]
  constructor
  · iintro ⟨H, HB⟩
    isplitl [HB]; · iexact HB
    iexact H
  · iintro ⟨HB, H⟩
    isplitl [H]; · iexact H
    iexact HB

theorem share_eq (c : Dev nD) (w : Fin cfg0.W) : (dats m ρ 0 c).share w = fullShare := by unfold Dat.share; split <;> rfl

/-! ## The launch element -/

def ringCells : Finset (GSem nD τ sig) := Finset.univ.map ⟨kcell, kcell_injective⟩

/-- The duties device `c` pays: which semaphore, which duty of it. -/
def payIx (x : Dev nD × Fin 15) : Dev nD × CK × Fin 3 :=
  (![(peer x.1 1, CK.bar, (0 : Fin 3)), (peer x.1 2, .bar, 1), (peer x.1 3, .bar, 2),
     (peer x.1 1, .pr (zc x.1), 0), (peer x.1 2, .pr (zc x.1), 0), (peer x.1 3, .pr (zc x.1), 0),
     (nxt x.1, .cr 0, 0), (nxt x.1, .cr 1, 0), (nxt x.1, .cr 2, 0),
     (x.1, .cs 0, 0), (x.1, .cs 1, 0), (x.1, .cs 2, 0),
     (x.1, .ps 0, 0), (x.1, .ps 1, 0), (x.1, .ps 2, 0)] : Fin 15 → Dev nD × CK × Fin 3) x.2
/-- Who pays a duty, and which of its payments it is. -/
def payBack (y : Dev nD × CK × Fin 3) : Dev nD × ℕ :=
  match y.2.1 with
  | .bar => (peer y.1 (3 - ⟨y.2.2.val, by omega⟩), y.2.2.val)
  | .pr j => (pa y.1 j, 3 + (zc y.1 - j - 1).val)
  | .cr h => (prv y.1, 6 + h.val)
  | .cs h => (y.1, 9 + h.val)
  | .ps h => (y.1, 12 + h.val)
theorem payBack_payIx (x : Dev nD × Fin 15) : payBack (payIx x) = (x.1, x.2.val) := by revert x; decide +kernel
theorem payIx_injective : Function.Injective payIx := fun x y h => by
  have e := (payBack_payIx x).symm.trans ((congrArg payBack h).trans (payBack_payIx y))
  exact Prod.ext (congrArg (fun p : Dev nD × ℕ => p.1) e) (Fin.ext (congrArg (fun p : Dev nD × ℕ => p.2) e))

abbrev tokOf (x : Dev nD × Fin 15) : GSem nD τ sig × ℕ × Fin 3 := (kcell ((payIx x).1, (payIx x).2.1), 0, (payIx x).2.2)
theorem tokOf_injective : Function.Injective tokOf := fun x y h => by
  have h1 := kcell_injective (congrArg (fun t : GSem nD τ sig × ℕ × Fin 3 => t.1) h)
  have h2 : (payIx x).2.2 = (payIx y).2.2 := congrArg (fun t : GSem nD τ sig × ℕ × Fin 3 => t.2.2) h
  exact payIx_injective (Prod.ext (congrArg (fun p : Dev nD × CK => p.1) h1) (Prod.ext (congrArg (fun p : Dev nD × CK => p.2) h1) h2))
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- What the launch element deals device `c`. -/
def G (c : Dev nD) : sProp 𝕄 :=
  iprop((bigSep Finset.univ fun k : CK => roundState ER (ringRd m ρ) (kcell (c, k)) 0)
    ∗ ((bigSep Finset.univ fun k : CK => atPos ER (kcell (c, k)) 0 ∅ 0) ∗ (bigSep Finset.univ fun k : CK => reached ER (kcell (c, k)) 0)) ∗ payToks c)

/-- What the allocation of the invariants makes of it. -/
def G' (c : Dev nD) : sProp 𝕄 := iprop(∃ K, ghost m ρ K c)

theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) := by
  rw [bigSep_univ_eq_bigSepL [0, 1, 2, 3, 4, 5, 6, 7, 8, 9, 10, 11, 12, 13, 14] (by decide) (by decide) Φ]
  rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => payToks c := by
    unfold ringToks; rw [bigSep_map, bigSep_univ_prod]
    exact bigSep_congr fun c _ => by unfold payToks; rw [bigSep_fin15]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ ((bigSep Finset.univ fun k : CK => atPos ER (kcell (c, k)) 0 ∅ 0) ∗ (bigSep Finset.univ fun k : CK => reached ER (kcell (c, k)) 0)) ∗ payToks c) := by
  unfold G
  iintro ⟨Hos, Hus, Hst, Hat, Htok⟩
  ihave Hv := (sems0_eq (F := F) c).1 $$ [Hos Hus]
  · isplitl [Hos] <;> iassumption
  imod (show iprop((bigSep Finset.univ fun k : CK => semVal (kcell (c, k)) 0) ∗ bigSep Finset.univ fun k : CK => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def linear (c : Dev nD) : sProp 𝕄 :=
  iprop((bigSep Finset.univ fun k : CK => atPos ER (kcell (c, k)) 0 ∅ 0) ∗ payToks c)

theorem ghost_intro (K : Dev nD × CK → ℕ) (c : Dev nD) : iprop(records m ρ K ∗ linear c) ⊢ G' m ρ c := by
  unfold linear G' ghost
  iintro ⟨HR, Ha, Ht⟩
  iexists K
  isplitl [HR]; · iexact HR
  isplitl [Ha] <;> iassumption

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m ρ) κ (kcell (c, k))))
          ∗ ((bigSep Finset.univ fun k : CK => atPos ER (kcell (c, k)) 0 ∅ 0) ∗ (bigSep Finset.univ fun k : CK => reached ER (kcell (c, k)) 0)) ∗ payToks c) : sProp 𝕄)
      ⊢ bigSep Finset.univ (G' m ρ) := by
  rw [bigSep_sep', bigSep_sep', ← bigSep_univ_prod (fun ck : Dev nD × CK => iprop(∃ κ : ℕ, cellInv ER (ringRd m ρ) κ (kcell ck))),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (ringRd m ρ) κ (kcell ck) : sProp 𝕄))) $$ HI
  icases HK with ⟨%K, #HI⟩
  iapply (bigSep_with_persistent (R := records m ρ K) fun c _ => ghost_intro m ρ K c)
  isplitr
  · unfold records; isplitl; · iexact HI
    iexact HR
  · iapply (Entails.of_eq (bigSep_sep' Finset.univ (fun c : Dev nD => bigSep Finset.univ fun k : CK => (atPos ER (kcell (c, k)) 0 ∅ 0 : sProp 𝕄)) payToks).symm)
    isplitl [Hat]; · iexact Hat
    iexact Htok

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem kcell_inj {x y : Dev nD × CK} (h : kcell x = kcell y) : x = y := kcell_injective h

/-- What a list of payments owes a semaphore: its amount as often as the list names it. -/
theorem oweL_kcell (l : List (Dev nD × CK)) (x : Dev nD × CK) : oweL l (kcell x) () = l.count x * camount x.2 := by
  induction l with
  | nil => simp [oweL]
  | cons y l ih =>
    unfold oweL
    rw [Pi.add_apply, Finsupp.add_apply, ih, tallyAt_apply, List.count_cons]
    by_cases h : x = y
    · subst h; simp [Nat.add_mul]
    · have h1 : ¬(kcell x = kcell y ∧ () = ()) := fun e => h (kcell_inj e.1)
      have h2 : (y == x) = false := beq_eq_false_iff_ne.mpr (Ne.symm h)
      rw [if_neg h1, h2]; simp

theorem count_bar (c : Dev nD) : (∑ d : Dev nD, (payL d).count (c, CK.bar)) = 3 := by revert c; decide +kernel
theorem count_cr (c : Dev nD) (h : Fin 3) : (∑ d : Dev nD, (payL d).count (c, CK.cr h)) = 1 := by revert c h; decide +kernel
theorem count_pr (c : Dev nD) (j : Fin 4) (hj : j ≠ zc c) : (∑ d : Dev nD, (payL d).count (c, CK.pr j)) = 1 := by revert c j; decide +kernel

theorem launch_cell (x : Dev nD × CK) :
    tallyOn (kcell x) (launchCredit (Pipeline.owing O₀) 0 (kcell x))
      = (tallyAt (kcell x) () ((∑ d : Dev nD, (payL d).count x) * camount x.2) : CellTallies nD τ sig Unit) := by
  unfold tallyAt; refine congrArg _ (Finsupp.ext fun u => ?_); cases u
  rw [Pipeline.launchCredit_owing, Finsupp.single_eq_same, Finset.sum_mul]
  exact Finset.sum_congr rfl fun d _ => oweL_kcell (payL d) x

theorem creds (c : Dev nD) : (Pipeline.launchCred O₀ c : sProp 𝕄) ⊢ credsOf c := by
  have h1 : (Pipeline.launchCred O₀ c : sProp 𝕄)
      ⊢ bigSep Finset.univ fun k : CK => cred (tallyAt (kcell (c, k)) () ((∑ d : Dev nD, (payL d).count (c, k)) * camount k)) := by
    unfold Pipeline.launchCred
    refine (BI.bigSep_subset (Finset.subset_univ (Finset.univ.map ⟨csem, csem_injective⟩))).trans ?_
    rw [bigSep_map]
    exact bigSep_mono fun k _ => Entails.of_eq (congrArg cred (launch_cell (c, k)))
  refine h1.trans ?_
  rw [bigSep_ord c, count_bar, count_cr, count_cr, count_cr, count_pr c _ (zc_ne1 c).symm, count_pr c _ (zc_ne2 c).symm, count_pr c _ (zc_ne3 c).symm]
  simp only [Nat.one_mul]
  unfold credsOf
  iintro ⟨HB, -, -, -, H0, H1, H2, -, -, -, -, Hq1, Hq2, Hq3⟩
  isplitl [HB]; · iexact HB
  isplitl [Hq1]; · iexact Hq1
  isplitl [Hq2]; · iexact Hq2
  isplitl [Hq3]; · iexact Hq3
  isplitl [H0]; · iexact H0
  isplitl [H1] <;> iassumption

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  iintro ⟨Hr, Hz⟩
  ihave Hz := (sems0_eq (F := F) c).2 $$ Hz
  icases Hz with ⟨Ho, Hu⟩
  isplitl [Hu]; · iexact Hu
  isplitl [Ho]; · iexact Ho
  iexact Hr

theorem mayWait_stage (c : Dev nD) (q : DmaSem sig) (hq : ∀ k, csem k ≠ .dma q) (O : CellTallies nD τ sig Unit) (hO : O = O₀ c ∨ O = 0) :
    (levAts L lv : sProp 𝕄) ⊢ MayWait (c : Thread nD τ) (.dma q) () O := by
  have h0 : lv ((c : Thread nD τ), .dma q) () ≤ 0 := by
    show (match ixOf (.dma q) with | some k => clev k | none => 0) ≤ 0
    rw [ixOf_stage q hq]
  have hp : ∀ x ∈ payL c, 0 < clev x.2 := by
    intro x hx
    simp only [payL, List.mem_cons, List.not_mem_nil, or_false] at hx
    rcases hx with rfl | rfl | rfl | rfl | rfl | rfl | rfl | rfl | rfl <;> simp [clev]
  rcases hO with rfl | rfl
  · exact mayWait c (.dma q) (payL c) 0 h0 hp
  · exact mayWait c (.dma q) [] 0 h0 fun x hx => absurd hx List.not_mem_nil

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values, every weakly fair execution of the sixteen devices ends, each
    array at its computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays end as they began. -/
theorem finalA_x (c : Dev nD) : finalA m ρ c (0 : Fin 3) = (s₀ m ρ).mem ((cfg0.win 0).arr.view.loc (c : Thread nD τ)) :=
  (dats (F := F) m ρ 0 c).arrAt_in (0 : Fin 3) rfl _
theorem finalA_w (c : Dev nD) : finalA m ρ c (1 : Fin 3) = (s₀ m ρ).mem ((cfg0.win 1).arr.view.loc (c : Thread nD τ)) :=
  (dats (F := F) m ρ 0 c).arrAt_in (1 : Fin 3) rfl _

end Cert.KernelIdealProof

end

end
-- ==== Proof.KernelIdeal.Result.lean ====
/-
# What the program leaves

The arrays after the run, read back: each device's result array holds `OUT`, its arguments what they held.
-/
module

public import proofs.«01_k».proof.Proof.KernelIdeal.Launch

@[expose] public section

noncomputable section

namespace Cert.KernelIdealProof

open Cert.KernelIdeal Cert.KernelIdeal.Gen

open Idealize.ShloMosaic
open Idealize.ShloMosaic.TcCoe
open Idealize.ShloMosaic.Pipeline (Dat Cfg Window)

variable {F : FTy → Type} [FloatOps F]

variable (m : (ℓ : Loc nD τ sig) → Buf (Elt F) ℓ) (ρ : Dev nD → PrngReg)

/-- The staged operands are the argument arrays themselves: each window is the whole array. -/
theorem xstg_eq (c : Dev nD) : xstg m ρ c = m ((c.tc : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _
theorem wstg_eq (c : Dev nD) : wstg m ρ c = m ((c.tc : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

/-- The result array, read through its window, is what the body stored. -/
theorem finalA_o (c : Dev nD) : (win0_2.blk (0 : Fin 1)).view.read (Elt F) (finalA m ρ c (2 : Fin 3)) = OUT m ρ c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

theorem finalA_out (c : Dev nD) : finalA m ρ c (2 : Fin 3) = OUT m ρ c := by
  have hz : (fun a => (win0_2.index (0 : Fin 1)) a * main_v1.ty.shape.size a) = fun _ => 0 :=
    funext fun a => by fin_cases a <;> decide
  exact (Memref.read_access_unit_zero (Elt F) main_v1 hz (fun a => by fin_cases a <;> decide) _).symm.trans (finalA_o m ρ c)

/-- The whole run: every device ends with `OUT` in its result array and its arguments unchanged, every counter at zero. -/
theorem run_out : θ_run defs (onTc (τ := τ) (main (F := F))) ⟨m, fun _ => 0, ρ⟩ (fun r =>
    (∀ c : Dev nD, r.2.mem ((c.tc : Thread nD τ).loc main_v1) = OUT m ρ c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono
    (fun _ h => ⟨fun c => ⟨(h.1 c (2 : Fin 3)).trans (finalA_out m ρ c), (h.1 c (0 : Fin 3)).trans (finalA_x m ρ c),
      (h.1 c (1 : Fin 3)).trans (finalA_w m ρ c)⟩, h.2⟩)
    (run_main m ρ)

end Cert.KernelIdealProof

end

end
-- ==== Proof.Value.Softmax.lean ====
/-
# Softmax over the extended reals

A row of finite logits: subtracting the row's maximum before the exponentials changes nothing, and a row of 16384 is
four runs of 4096.
-/
module

public import Idealize.ShloMosaic.Lib.IdealHost

@[expose] public section

noncomputable section

namespace Cert.Softmax

open Idealize.ShloMosaic

/-- A finite sum of reals, taken in the extended reals. -/
theorem coe_sum {ι : Type} (s : Finset ι) (f : ι → ℝ) : ((∑ i ∈ s, f i : ℝ) : EReal) = ∑ i ∈ s, (f i : EReal) := by
  classical
  refine Finset.induction_on s rfl fun a s ha ih => ?_
  rw [Finset.sum_insert ha, Finset.sum_insert ha, EReal.coe_add, ih]

/-- The maximum of finitely many reals, at least one, is a real. -/
theorem fold_max_real {ι : Type} (s : Finset ι) (f : ι → ℝ) :
    s.Nonempty → ∃ r : ℝ, s.fold max (⊥ : EReal) (fun i => (f i : EReal)) = (r : EReal) := by
  classical
  refine Finset.induction_on s (fun h => absurd h Finset.not_nonempty_empty) fun a s ha ih _ => ?_
  rw [Finset.fold_insert ha]
  rcases s.eq_empty_or_nonempty with rfl | hs
  · exact ⟨f a, by rw [Finset.fold_empty]; exact max_bot_right _⟩
  · obtain ⟨r, hr⟩ := ih hs
    rw [hr]
    rcases le_total (f a) r with h | h
    · exact ⟨r, max_eq_right (EReal.coe_le_coe_iff.mpr h)⟩
    · exact ⟨f a, max_eq_left (EReal.coe_le_coe_iff.mpr h)⟩

/-- A product of finite factors is finite, and so is a sum of them. -/
theorem dot_real {ι : Type} (s : Finset ι) (x w : ι → EReal) (hx : ∀ i, ∃ r : ℝ, x i = r) (hw : ∀ i, ∃ r : ℝ, w i = r) :
    ∃ r : ℝ, ∑ i ∈ s, x i * w i = (r : EReal) := by
  choose p hp using hx
  choose q hq using hw
  refine ⟨∑ i ∈ s, p i * q i, ?_⟩
  rw [coe_sum]
  exact Finset.sum_congr rfl fun i _ => by rw [hp, hq, EReal.coe_mul]

/-- **Softmax**: with the row's maximum `M` subtracted or without it, for finite logits. -/
theorem softmax {ι : Type} [Fintype ι] (D : ι → EReal) (hD : ∀ i, ∃ r : ℝ, D i = r) (i : ι) :
    Ideal.div (Ideal.exp (D i - Finset.univ.fold max ⊥ D)) (0 + ∑ k, Ideal.exp (D k - Finset.univ.fold max ⊥ D))
      = Ideal.exp (D i) * Ideal.div 1 (∑ k, Ideal.exp (D k)) := by
  choose L hL using hD
  obtain rfl : D = fun k => (L k : EReal) := funext hL
  obtain ⟨M, hM⟩ := fold_max_real Finset.univ L ⟨i, Finset.mem_univ i⟩
  rw [hM, zero_add]
  have pos : ∀ f : ι → ℝ, 0 < ∑ k, Real.exp (f k) := fun f => Finset.sum_pos (fun k _ => Real.exp_pos _) ⟨i, Finset.mem_univ i⟩
  have e1 : (∑ k, Ideal.exp ((L k : EReal) - (M : EReal))) = ((∑ k, Real.exp (L k - M) : ℝ) : EReal) := by
    rw [coe_sum]; exact Finset.sum_congr rfl fun k _ => by rw [← EReal.coe_sub, Ideal.exp_coe]
  have e2 : (∑ k, Ideal.exp (L k : EReal)) = ((∑ k, Real.exp (L k) : ℝ) : EReal) := by
    rw [coe_sum]; exact Finset.sum_congr rfl fun k _ => by rw [Ideal.exp_coe]
  rw [e1, e2, Ideal.div_coe (pos fun k => L k - M).ne', Ideal.div_coe (pos L).ne', ← EReal.coe_sub, Ideal.exp_coe, Ideal.exp_coe,
    one_mul, ← EReal.coe_mul, ← EReal.coe_mul, EReal.coe_eq_coe_iff]
  have e3 : (∑ k, Real.exp (L k - M)) = (∑ k, Real.exp (L k)) / Real.exp M := by
    rw [Finset.sum_div]; exact Finset.sum_congr rfl fun k _ => Real.exp_sub _ _
  rw [e3, Real.exp_sub]
  have h1 := (pos L).ne'
  have h2 := (Real.exp_pos M).ne'
  field_simp

/-- Column `b` of run `j`. -/
def col (j : Fin 4) (b : Fin 4096) : Fin 16384 := ⟨4096 * j.val + b.val, by omega⟩

/-- A sum over 16384 columns, run by run. -/
theorem sum_cols (f : Fin 16384 → EReal) :
    ∑ n, f n = (((∑ b, f (col 0 b)) + ∑ b, f (col 1 b)) + ∑ b, f (col 2 b)) + ∑ b, f (col 3 b) := by
  rw [← Equiv.sum_comp (finProdFinEquiv (m := 4) (n := 4096)) f, Fintype.sum_prod_type, Fin.sum_univ_four]
  have h : ∀ (j : Fin 4) (b : Fin 4096), (finProdFinEquiv (j, b) : Fin (4 * 4096)) = col j b := fun j b =>
    Fin.ext (by show b.val + 4096 * j.val = 4096 * j.val + b.val; omega)
  simp only [h]

end Cert.Softmax

end

end
-- ==== Proof.Value.Ref.lean ====
/-
# The reference's value

The reference's composed term, read at one element: the exponential of the logit less its row's maximum, divided by the
row's sum of these.
-/
module

public import proofs.«01_k».proof.Proof.Gen.ReferenceIdeal.Run
public import Idealize.ShloMosaic.Lib.StackMember
public import Idealize.ShloMosaic.Lib.IdealHost
public import Idealize.ShloMosaic.Lib.ValueLayout

@[expose] public section

noncomputable section

namespace Cert.RefValue

open Cert.ReferenceIdeal Cert.ReferenceIdeal.Gen
open Idealize.ShloMosaic Idealize.ShloMosaic.ValueIdx

/-- The logits of the whole arrays. -/
abbrev logits (X : FVec Ideal S256x512 .bf16) (W : FVec Ideal S512x16384 .bf16) : FVec Ideal S256x16384 .f32 :=
  Host.dotGeneral dot_S256x512_S512x16384_S256x16384_1_0_0_1_n_n none (extf .f32 X bitsLt_bf16_f32) (extf .f32 W bitsLt_bf16_f32)

/-- A row's maximum, spread over the row. -/
abbrev rowMax (D : FVec Ideal S256x16384 .f32) : FVec Ideal S256x16384 .f32 :=
  broadcastInDim S256x16384 ![0, 1] bcast_S256x1_S256x16384_0_1 (broadcastInDim S256x1 ![0] bcast_S256_S256x1_0
    (Host.reduce FloatOps.maximumf D (constant S_ .f32 0xFF800000#32) reducesTo_S256x16384_S256_d1 h_S_))

/-- A row's sum, spread over the row. -/
abbrev rowSum (E : FVec Ideal S256x16384 .f32) : FVec Ideal S256x16384 .f32 :=
  broadcastInDim S256x16384 ![0, 1] bcast_S256x1_S256x16384_0_1 (broadcastInDim S256x1 ![0] bcast_S256_S256x1_0
    (Host.reduceAdd E (constant S_ .f32 0x00000000#32) reducesTo_S256x16384_S256_d1 h_S_))

/-- What the reference returns. -/
abbrev result (X : FVec Ideal S256x512 .bf16) (W : FVec Ideal S512x16384 .bf16) : FVec Ideal S256x16384 .f32 :=
  Host.divf (Host.exp (subf (logits X W) (rowMax (logits X W))))
    (rowSum (Host.exp (subf (logits X W) (rowMax (logits X W)))))

/-- One logit. -/
theorem logits_apply (X : FVec Ideal S256x512 .bf16) (W : FVec Ideal S512x16384 .bf16) (a : Fin 256) (n : Fin 16384) :
    logits X W (ix2 a n) = ∑ k : Fin 512, X (ix2 a k) * W (ix2 k n) :=
  StackMember.dotGeneral_plain_apply (m := 256) (n := 16384) (k := 512) none (extf .f32 X bitsLt_bf16_f32) (extf .f32 W bitsLt_bf16_f32) a n

/-- A column spread over the rows, read at an element. -/
theorem spread_apply (v : FVec Ideal S256 .f32) (a : Fin 256) (n : Fin 16384) :
    broadcastInDim S256x16384 ![0, 1] bcast_S256x1_S256x16384_0_1 (broadcastInDim S256x1 ![0] bcast_S256_S256x1_0 v) (ix2 a n)
      = v (ix1 a) := by
  rw [broadcastInDim_apply _ _ _ (ix2 a n) (ix2 (n0 := 256) (n1 := 1) a 0) (by
      intro d; match d with | ⟨0, _⟩ => rfl | ⟨1, _⟩ => rfl)]
  exact broadcastInDim_apply _ _ _ _ (ix1 (n := 256) a) (by intro d; match d with | ⟨0, _⟩ => rfl)

theorem reduces_row : S256x16384.Reduces [1] S256 := by decide

theorem lift_row (a : Fin 256) (n : Fin 16384) : reduces_row.lift (ix1 a) n = ix2 a n := by
  funext d; match d with | ⟨0, _⟩ => rfl | ⟨1, _⟩ => rfl

theorem ofBits_neg_inf : Ideal.ofBits .f32 0xFF800000#32 = ⊥ := by simp [Ideal.ofBits, Ideal.ieee]

theorem rowMax_apply (D : FVec Ideal S256x16384 .f32) (a : Fin 256) (n : Fin 16384) :
    rowMax D (ix2 a n) = (Finset.univ : Finset (Fin 16384)).fold max ⊥ (fun k => D (ix2 a k)) := by
  unfold rowMax
  rw [spread_apply, Host.reduce_eq_fold_single _ _ _ _ reduces_row]
  show (Finset.univ : Finset (Fin 16384)).fold max (Ideal.ofBits .f32 0xFF800000#32) (fun k => D (reduces_row.lift (ix1 a) k)) = _
  rw [ofBits_neg_inf]
  exact congrArg (fun f => (Finset.univ : Finset (Fin 16384)).fold max ⊥ f) (funext fun k => congrArg D (lift_row a k))

theorem rowSum_apply (E : FVec Ideal S256x16384 .f32) (a : Fin 256) (n : Fin 16384) :
    rowSum E (ix2 a n) = 0 + ∑ k : Fin 16384, E (ix2 a k) := by
  unfold rowSum
  rw [spread_apply, hostReduceAdd_apply, Ideal.hostReduceAdd_single _ reduces_row]
  show Ideal.ofBits .f32 0x00000000#32 + ∑ k : Fin 16384, E (reduces_row.lift (ix1 a) k) = _
  simp only [Ideal.ofBits_zero_f32, lift_row]

/-- The reference at one element. -/
theorem result_apply (X : FVec Ideal S256x512 .bf16) (W : FVec Ideal S512x16384 .bf16) (a : Fin 256) (n : Fin 16384) :
    result X W (ix2 a n)
      = Ideal.div (Ideal.exp (logits X W (ix2 a n) - (Finset.univ : Finset (Fin 16384)).fold max ⊥ fun k => logits X W (ix2 a k)))
          (0 + ∑ k : Fin 16384, Ideal.exp (logits X W (ix2 a k) - (Finset.univ : Finset (Fin 16384)).fold max ⊥ fun k => logits X W (ix2 a k))) := by
  unfold result
  rw [hostDivf_apply, rowSum_apply]
  show Ideal.div (Ideal.exp (logits X W (ix2 a n) - rowMax (logits X W) (ix2 a n)))
    (0 + ∑ k : Fin 16384, Ideal.exp (logits X W (ix2 a k) - rowMax (logits X W) (ix2 a k))) = _
  simp only [rowMax_apply]

end Cert.RefValue

end

end
-- ==== Proof.Value.Kernel.lean ====
/-
# The kernel's value

One element of a device's result over the extended reals: the exponential of the logit its group's device computed,
times the reciprocal of the sum over the four devices of their sums of exponentials.
-/
module

public import proofs.«01_k».proof.Proof.KernelIdeal.Slots
public import Idealize.ShloMosaic.Lib.MatmulPlain
public import Idealize.ShloMosaic.Lib.IdealHost
public import Idealize.ShloMosaic.Lib.ValueLayout
public import Idealize.ShloMosaic.Lib.ValueLayoutCasts

@[expose] public section

noncomputable section

namespace Cert.KernelValue

open Cert.KernelIdeal Cert.KernelIdeal.Gen Cert.KernelIdealProof
open Idealize.ShloMosaic Idealize.ShloMosaic.ValueIdx

/-- One logit of a block: the product's accumulator is zero. -/
theorem pay1_apply (x : FVec Ideal S256x512 .bf16) (w : FVec Ideal S512x4096 .bf16) (a : Fin 256) (b : Fin 4096) :
    k0_pay1 (F := Ideal) x w (ix2 a b) = ∑ k : Fin 512, x (ix2 a k) * w (ix2 k b) := by
  unfold k0_pay1
  simp only [shapeCast_self]
  refine (Ideal.matmul_plain_apply (M := 256) (K := 512) (N := 4096) none x w (constant S256x4096 .f32 0x00000000#32) a b).trans ?_
  show Ideal.ofBits .f32 0x00000000#32 + _ = _
  rw [Ideal.ofBits_zero_f32, zero_add]

theorem lift_row (a : Fin 256) (b : Fin 4096) : reduces_S256x4096_S256.lift (ix1 a) b = ix2 a b := by
  funext d; match d with | ⟨0, _⟩ => rfl | ⟨1, _⟩ => rfl

/-- A device's partial sum of one row. -/
theorem pay3_apply (x : FVec Ideal S256x512 .bf16) (w : FVec Ideal S512x4096 .bf16) (a : Fin 256) :
    k0_pay3 (F := Ideal) x w (ix3 (0 : Fin 1) a (0 : Fin 1)) = ∑ b : Fin 4096, Ideal.exp (k0_pay1 (F := Ideal) x w (ix2 a b)) := by
  unfold k0_pay3
  dsimp only
  refine (shapeCast_ab_1ab_apply (a := 256) (b := 1) _ _ (0 : Fin 1) a (0 : Fin 1)).trans ?_
  refine (shapeCast_a_a1_apply (a := 256) _ _ a (0 : Fin 1)).trans ?_
  refine (Ideal.multiReduction_add_single _ _ reduces_S256x4096_S256 _ _ (ix1 a)).trans ?_
  exact Finset.sum_congr rfl fun b _ => congrArg (fun i => Ideal.exp (k0_pay1 (F := Ideal) x w i)) (lift_row a b)

theorem drop_apply (p : FVec Ideal S1x256x1 .f32) (a : Fin 256) :
    shapeCast S256x1 p shapeCasts_S1x256x1_S256x1 (ix2 a (0 : Fin 1)) = p (ix3 (0 : Fin 1) a (0 : Fin 1)) :=
  shapeCast_1ab_ab_apply (a := 256) (b := 1) p _ a 0

/-- The reciprocal of the sum of the four partial sums of one row. -/
theorem inv_apply (p0 p1 p2 p3 : FVec Ideal S1x256x1 .f32) (a : Fin 256) :
    k0_pay5 (F := Ideal) (k0_pay4 (F := Ideal) p0 p1 p2) p3 (ix2 a (0 : Fin 1))
      = Ideal.div 1 (((p0 (ix3 (0 : Fin 1) a (0 : Fin 1)) + p1 (ix3 (0 : Fin 1) a (0 : Fin 1))) + p2 (ix3 (0 : Fin 1) a (0 : Fin 1)))
          + p3 (ix3 (0 : Fin 1) a (0 : Fin 1))) := by
  unfold k0_pay5 k0_pay4
  dsimp only
  rw [divf_apply, addf_apply, addf_apply, addf_apply, drop_apply, drop_apply, drop_apply, drop_apply, broadcast_apply]
  show Ideal.div (Ideal.ofBits .f32 0x3F800000#32) _ = _
  rw [Ideal.ofBits_one_f32]

theorem spread_apply (v : FVec Ideal S256x1 .f32) (a : Fin 256) (b : Fin 4096) :
    broadcastTo S256x4096 v broadcasts_S256x1_S256x4096 (ix2 a b) = v (ix2 a (0 : Fin 1)) :=
  broadcastTo_apply v _ _ _ (by intro d; match d with | ⟨0, _⟩ => rfl | ⟨1, _⟩ => rfl)

/-- The stored own block. -/
theorem pay6_apply (l : FVec Ideal S256x4096 .f32) (q : FVec Ideal S256x1 .f32) (p : FVec Ideal S1x256x1 .f32) (a : Fin 256) (b : Fin 4096) :
    k0_pay6 (F := Ideal) l q p (ix2 a b) = Ideal.exp (l (ix2 a b)) * k0_pay5 (F := Ideal) q p (ix2 a (0 : Fin 1)) := by
  unfold k0_pay6
  rw [mulf_apply, spread_apply]
  rfl

/-- The stored block of another device. -/
theorem pay8_apply (v : FVec Ideal S256x1 .f32) (l : FVec Ideal S256x4096 .f32) (a : Fin 256) (b : Fin 4096) :
    k0_pay8 (F := Ideal) v l (ix2 a b) = Ideal.exp (l (ix2 a b)) * v (ix2 a (0 : Fin 1)) := by
  unfold k0_pay8
  rw [mulf_apply, spread_apply]
  rfl

/-- What arrives of a block of logits is the block: rounding to bf16 and back is the identity here. -/
theorem pay7_apply (x : FVec Ideal S256x512 .bf16) (w : FVec Ideal S512x4096 .bf16) (a : Fin 256) (b : Fin 4096) :
    k0_pay7 (F := Ideal) (k0_pay2 (F := Ideal) x w) (ix2 a b) = k0_pay1 (F := Ideal) x w (ix2 a b) := by
  unfold k0_pay7 k0_pay2
  dsimp only
  rw [extf_apply]
  refine (shapeCast_1ab_ab_apply (a := 256) (b := 4096) _ _ a b).trans ?_
  exact shapeCast_ab_1ab_apply (a := 256) (b := 4096) _ _ (0 : Fin 1) a b

variable (m : (ℓ : Loc nD τ sig) → Buf (Elt Ideal) ℓ) (ρ : Dev nD → PrngReg)

/-- The logit of row `a`, column `b` of the block that the `j`-th device of `c`'s group computes. -/
def lg (c : Dev nD) (j : Fin 4) (a : Fin 256) (b : Fin 4096) : EReal :=
  k0_pay1 (F := Ideal) (xstg m ρ (pa c j)) (wstg m ρ (pa c j)) (ix2 a b)

theorem psum_apply (c : Dev nD) (j : Fin 4) (a : Fin 256) :
    psumOf m ρ (pa c j) (ix3 (0 : Fin 1) a (0 : Fin 1)) = ∑ b, Ideal.exp (lg m ρ c j a b) :=
  pay3_apply _ _ a

/-- One element of column block `j` of device `c`'s result: the same for its own block and the ones it received. -/
theorem outBlk_apply (c : Dev nD) (j : Fin 4) (a : Fin 256) (b : Fin 4096) :
    outBlk m ρ c j (ix2 a b) = Ideal.exp (lg m ρ c j a b) * Ideal.div 1
      ((((∑ b, Ideal.exp (lg m ρ c 0 a b)) + ∑ b, Ideal.exp (lg m ρ c 1 a b)) + ∑ b, Ideal.exp (lg m ρ c 2 a b))
        + ∑ b, Ideal.exp (lg m ρ c 3 a b)) := by
  unfold outBlk
  split
  · rename_i h
    subst h
    rw [pay6_apply, inv_apply, psum_apply, psum_apply, psum_apply, psum_apply]
    rw [show k0_pay1 (F := Ideal) (xstg m ρ c) (wstg m ρ c) (ix2 a b) = lg m ρ c (zc c) a b from by unfold lg; rw [pa_zc]]
  · rw [pay8_apply]
    unfold invOf blkOf
    rw [inv_apply, psum_apply, psum_apply, psum_apply, psum_apply, pay7_apply]
    rfl

end Cert.KernelValue

end

end
-- ==== Proof.Value.Equation.lean ====
/-
# The equation

On finite arguments each device's result is the reference's: its blocks' logits are the whole product's, column block by
column block, and the two softmax formulas agree on finite logits.
-/
module

public import proofs.«01_k».proof.Defs
public import proofs.«01_k».proof.Proof.Value.Softmax
public import proofs.«01_k».proof.Proof.Value.Ref
public import proofs.«01_k».proof.Proof.Value.Kernel
public import proofs.«01_k».proof.Proof.KernelIdeal.Result

@[expose] public section

noncomputable section

namespace Cert.Equation

open Idealize.ShloMosaic Idealize.ShloMosaic.ValueIdx Idealize.ShloMosaic.TcCoe
open Cert.KernelIdealProof Cert.Softmax

/-- The shape facts of the precondition. -/
theorem pre_facts : Cert.Pre_finite_arguments_KernelIdeal.Facts where
  bcast_S_S256x512 := by decide
  bcast_S_S512x4096 := by decide

theorem ofBits_inf : Ideal.ofBits .bf16 0x7F80#16 = ⊤ := by simp [Ideal.ofBits, Ideal.ieee]

/-- An extended real whose absolute value is below infinity is a real. -/
theorem real_of_abs {x : EReal} (h : Ideal.cmp .olt (max x (-x)) ⊤ = 1#1) : ∃ r : ℝ, x = r := by
  have h' : max x (-x) < ⊤ := by
    by_contra hn
    rw [show Ideal.cmp .olt (max x (-x)) ⊤ = 0#1 from by simp [Ideal.cmp, hn]] at h
    exact absurd h (by decide)
  induction x with
  | bot => simp at h'
  | top => simp at h'
  | coe r => exact ⟨r, rfl⟩

/-- The precondition says that every element of both arguments is finite. -/
theorem finite_x (x : FVec Ideal Cert.Pre_finite_arguments_KernelIdeal.S256x512 .bf16)
    (w : FVec Ideal Cert.Pre_finite_arguments_KernelIdeal.S512x4096 .bf16)
    (h : (letI := pre_facts; (Cert.Pre_finite_arguments_KernelIdeal.fn (F := Ideal) x w).1) = fun _ => 1#1) (i) : ∃ r : ℝ, x i = r := by
  refine real_of_abs ?_
  rw [← ofBits_inf]
  exact congrFun h i
theorem finite_w (x : FVec Ideal Cert.Pre_finite_arguments_KernelIdeal.S256x512 .bf16)
    (w : FVec Ideal Cert.Pre_finite_arguments_KernelIdeal.S512x4096 .bf16)
    (h : (letI := pre_facts; (Cert.Pre_finite_arguments_KernelIdeal.fn (F := Ideal) x w).2) = fun _ => 1#1) (i) : ∃ r : ℝ, w i = r := by
  refine real_of_abs ?_
  rw [← ofBits_inf]
  exact congrFun h i

/-- The `j`-th device of a group holds column block `j`. -/
theorem block_apply (V : (⟨2, ![512, 16384]⟩ : Shape).Idx → EReal) (c : Dev Cert.KernelIdeal.nD) (j : Fin 4) (k : Fin 512) (b : Fin 4096) :
    (Layout.blockN ⟨2, ![512, 4096]⟩ ⟨2, ![512, 16384]⟩ (Layout.meshBlock [2, 2, 4] ![[], [2]] (pa c j)) V) (ix2 k b) = V (ix2 k (col j b)) := by
  rw [Layout.blockN_apply]
  refine congrArg V (funext fun d => Fin.ext ?_)
  rw [Layout.TilesN.idx_val]
  match d with
  | ⟨0, _⟩ => show 0 * 512 + k.val = k.val; omega
  | ⟨1, _⟩ =>
    show ((4 * (c.val / 4) + j.val) / 1 % 4 * 1 + 0) * 4096 + b.val = 4096 * j.val + b.val
    have := j.isLt
    omega

variable (m : (ℓ : Loc Cert.KernelIdeal.nD Cert.KernelIdeal.τ Cert.KernelIdeal.sig) → Buf (Elt Ideal) ℓ)
  (ρ : Dev Cert.KernelIdeal.nD → PrngReg)
  (X : FVec Ideal Cert.ReferenceIdeal.S256x512 .bf16) (W : FVec Ideal Cert.ReferenceIdeal.S512x16384 .bf16)

/-- A block's logit is the whole product's, in its column. -/
theorem lg_eq
    (hX : ∀ c : Dev Cert.KernelIdeal.nD, m ((c.tc : Thread Cert.KernelIdeal.nD Cert.KernelIdeal.τ).loc Cert.KernelIdeal.main_arg0) = X)
    (hW : ∀ c : Dev Cert.KernelIdeal.nD, m ((c.tc : Thread Cert.KernelIdeal.nD Cert.KernelIdeal.τ).loc Cert.KernelIdeal.main_arg1)
      = Layout.blockN ⟨2, ![512, 4096]⟩ ⟨2, ![512, 16384]⟩ (Layout.meshBlock [2, 2, 4] ![[], [2]] c) W)
    (c : Dev Cert.KernelIdeal.nD) (j : Fin 4) (a : Fin 256) (b : Fin 4096) :
    Cert.KernelValue.lg m ρ c j a b = Cert.RefValue.logits X W (ix2 a (col j b)) := by
  unfold Cert.KernelValue.lg
  rw [xstg_eq, wstg_eq, hX, hW, Cert.RefValue.logits_apply]
  refine (Cert.KernelValue.pay1_apply _ _ a b).trans ?_
  exact Finset.sum_congr rfl fun k _ => congrArg (X (ix2 a k) * ·) (block_apply W c j k b)

/-- **Each device's result is the reference's**, on finite arguments. -/
theorem OUT_eq
    (hpre : Cert.Pre_KernelIdeal_finite_arguments_KernelIdeal (hPre_finite_arguments_KernelIdeal := pre_facts) m)
    (hX : ∀ c : Dev Cert.KernelIdeal.nD, m ((c.tc : Thread Cert.KernelIdeal.nD Cert.KernelIdeal.τ).loc Cert.KernelIdeal.main_arg0) = X)
    (hW : ∀ c : Dev Cert.KernelIdeal.nD, m ((c.tc : Thread Cert.KernelIdeal.nD Cert.KernelIdeal.τ).loc Cert.KernelIdeal.main_arg1)
      = Layout.blockN ⟨2, ![512, 4096]⟩ ⟨2, ![512, 16384]⟩ (Layout.meshBlock [2, 2, 4] ![[], [2]] c) W)
    (c : Dev Cert.KernelIdeal.nD) : OUT m ρ c = Cert.RefValue.result X W := by
  -- every column is column `b` of some block `j`
  have hcol : ∀ n : Fin 16384, n = col ⟨n.val / 4096, by have := n.isLt; omega⟩ ⟨n.val % 4096, Nat.mod_lt _ (by decide)⟩ := fun n =>
    Fin.ext (Nat.div_add_mod n.val 4096).symm
  -- every logit is finite
  have hfin : ∀ (a : Fin 256) (n : Fin 16384), ∃ r : ℝ, Cert.RefValue.logits X W (ix2 a n) = r := fun a n => by
    rw [hcol n, ← lg_eq m ρ X W hX hW c]
    unfold Cert.KernelValue.lg
    rw [xstg_eq, wstg_eq, Cert.KernelValue.pay1_apply]
    exact dot_real _ _ _ (fun k => finite_x _ _ (hpre _).1 _) (fun k => finite_w _ _ (hpre _).2 _)
  funext (i : Cert.KernelIdeal.S256x16384.Idx)
  obtain ⟨a, n, rfl⟩ : ∃ (a : Fin 256) (n : Fin 16384), i = ix2 a n := ⟨i 0, i 1, eq_ix2 i⟩
  rw [Cert.RefValue.result_apply, softmax (fun k => Cert.RefValue.logits X W (ix2 a k)) (hfin a) n, sum_cols]
  have hin : oIn (ix2 a n) = ix2 a ⟨n.val % 4096, Nat.mod_lt _ (by decide)⟩ := by
    funext d; match d with | ⟨0, _⟩ => rfl | ⟨1, _⟩ => rfl
  show outBlk m ρ c ⟨n.val / 4096, _⟩ (oIn (ix2 a n)) = _
  rw [hin, Cert.KernelValue.outBlk_apply]
  simp only [lg_eq m ρ X W hX hW]
  rw [← hcol n]

end Cert.Equation

end

end
-- ==== Proof.lean ====
/-
# The certificate

The frames are the run theorems of `Kernel/Result.lean` and `KernelIdeal/Result.lean` with the values dropped, and the
reference's own run. The value claim reads each device's result (`run_out`) through `Cert.Equation.OUT_eq`, which says that
on finite arguments it is the reference's.
-/
module

public import proofs.«01_k».proof.Proof.Gen.ReferenceIdeal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Result
public import proofs.«01_k».proof.Proof.KernelIdeal.Result
public import proofs.«01_k».proof.Proof.Value.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel ends without fault, its arguments unchanged and every counter at zero. -/
theorem frame_kernel : Cert.quiescent_Kernel (hKernel := Cert.Kernel.Gen.facts) := fun m ρ _ =>
  (θ_run Cert.Kernel.defs _ _).mono (fun _ h => ⟨fun c => (h.1 c).2, h.2⟩) (Cert.KernelProof.run_out (F := Bits) m ρ)

/-- So does the kernel over the extended reals. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdealProof.run_out (F := Ideal) m ρ)

/-- So does the reference over the extended reals. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The shape facts of the precondition over the reference's arrays. -/
theorem pre_facts_reference : Cert.Pre_finite_arguments_ReferenceIdeal.Facts where
  bcast_S_S256x512 := by decide
  bcast_S_S512x16384 := by decide

/-- On finite arguments every device of the kernel ends with the reference's result. -/
theorem algebraic : Cert.algebraic_KernelIdeal_ReferenceIdeal_pre_finite_arguments_KernelIdeal
    (hKernelIdeal := Cert.KernelIdeal.Gen.facts) (hReferenceIdeal := Cert.ReferenceIdeal.Gen.facts)
    (hPre_finite_arguments_KernelIdeal := Cert.Equation.pre_facts) := fun m ρ m' ρ' hpre hagree =>
  ⟨Cert.RefValue.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.trans
        (Cert.Equation.OUT_eq m ρ _ _ hpre (fun c => (hagree c).1) (fun c => (hagree c).2) c), (h.1 c).2⟩)
      (Cert.KernelIdealProof.run_out (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts, Cert.Equation.pre_facts, pre_facts_reference,
    frame_kernel, frame_ideal, fun m ρ _ => frame_ideal m ρ trivial, frame_reference, fun m ρ _ => frame_reference m ρ trivial,
    trivial, algebraic⟩

end Cert.Proof

end
